-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MemQ (m : (ℓ : Loc Cert.MemQ.nD Cert.MemQ.τ Cert.MemQ.sig) → Buf (Elt Bits) ℓ) : Prop :=
  True

def Pre_MemQIdeal (m : (ℓ : Loc Cert.MemQIdeal.nD Cert.MemQIdeal.τ Cert.MemQIdeal.sig) → Buf (Elt Ideal) ℓ) : Prop :=
  True

def Pre_MemQRefIdeal (m : (ℓ : Loc Cert.MemQRefIdeal.nD Cert.MemQRefIdeal.τ Cert.MemQRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_queries_and_keys [hPre_queries_and_keys : Cert.Pre_queries_and_keys.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_queries_and_keys.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2))).1 = (fun _ => 1#1)
    ∧ (Cert.Pre_queries_and_keys.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2))).2 = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_queries_and_keys [hPre_queries_and_keys : Cert.Pre_queries_and_keys.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_queries_and_keys.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2))).1 = (fun _ => 1#1)
    ∧ (Cert.Pre_queries_and_keys.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2))).2 = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_QkvEven (m : (ℓ : Loc Cert.QkvEven.nD Cert.QkvEven.τ Cert.QkvEven.sig) → Buf (Elt Bits) ℓ) : Prop :=
  True

def Pre_QkvEvenIdeal (m : (ℓ : Loc Cert.QkvEvenIdeal.nD Cert.QkvEvenIdeal.τ Cert.QkvEvenIdeal.sig) → Buf (Elt Ideal) ℓ) : Prop :=
  True

def Pre_QkvEvenRefIdeal (m : (ℓ : Loc Cert.QkvEvenRefIdeal.nD Cert.QkvEvenRefIdeal.τ Cert.QkvEvenRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_MemQ [hMemQ : Cert.MemQ.Facts] : Prop :=
  ∀ (m : (ℓ : Loc Cert.MemQ.nD Cert.MemQ.τ Cert.MemQ.sig) → Buf (Elt Bits) ℓ) (g : Dev Cert.MemQ.nD → PrngReg), Pre_MemQ m →
    θ_run (Cert.MemQ.defs (F := Bits)) (onTc (τ := Cert.MemQ.τ) (Cert.MemQ.main (F := Bits))) ⟨m, fun _ => 0, g⟩ (fun r => (∀ c : Dev Cert.MemQ.nD,
      r.2.mem ((c.tc : Thread Cert.MemQ.nD Cert.MemQ.τ).loc Cert.MemQ.main_arg0) = m ((c.tc : Thread Cert.MemQ.nD Cert.MemQ.τ).loc Cert.MemQ.main_arg0)
      ∧ r.2.mem ((c.tc : Thread Cert.MemQ.nD Cert.MemQ.τ).loc Cert.MemQ.main_arg1) = m ((c.tc : Thread Cert.MemQ.nD Cert.MemQ.τ).loc Cert.MemQ.main_arg1)
      ∧ r.2.mem ((c.tc : Thread Cert.MemQ.nD Cert.MemQ.τ).loc Cert.MemQ.main_arg2) = m ((c.tc : Thread Cert.MemQ.nD Cert.MemQ.τ).loc Cert.MemQ.main_arg2))
      ∧ r.2.sem = fun _ => 0)

def quiescent_MemQIdeal [hMemQIdeal : Cert.MemQIdeal.Facts] : Prop :=
  ∀ (m : (ℓ : Loc Cert.MemQIdeal.nD Cert.MemQIdeal.τ Cert.MemQIdeal.sig) → Buf (Elt Ideal) ℓ) (g : Dev Cert.MemQIdeal.nD → PrngReg), Pre_MemQIdeal m →
    θ_run (Cert.MemQIdeal.defs (F := Ideal)) (onTc (τ := Cert.MemQIdeal.τ) (Cert.MemQIdeal.main (F := Ideal))) ⟨m, fun _ => 0, g⟩ (fun r => (∀ c : Dev Cert.MemQIdeal.nD,
      r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
      ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1)
      ∧ r.2.mem ((c.tc : Thread Cert.MemQIdeal.nD Cert.MemQIdeal.τ).loc Cert.MemQIdeal.main_arg2) = m ((c.tc : Thread Cert.MemQIdeal.nD Cert.MemQIdeal.τ).loc Cert.MemQIdeal.main_arg2))
      ∧ r.2.sem = fun _ => 0)

def quiescent_MemQRefIdeal [hMemQRefIdeal : Cert.MemQRefIdeal.Facts] : Prop :=
  ∀ (m : (ℓ : Loc Cert.MemQRefIdeal.nD Cert.MemQRefIdeal.τ Cert.MemQRefIdeal.sig) → Buf (Elt Ideal) ℓ) (g : Dev Cert.MemQRefIdeal.nD → PrngReg), Pre_MemQRefIdeal m →
    θ_run (Cert.MemQRefIdeal.defs (F := Ideal)) (onTc (τ := Cert.MemQRefIdeal.τ) (Cert.MemQRefIdeal.main (F := Ideal))) ⟨m, fun _ => 0, g⟩ (fun r => (∀ c : Dev Cert.MemQRefIdeal.nD,
      r.2.mem ((c.tc : Thread Cert.MemQRefIdeal.nD Cert.MemQRefIdeal.τ).loc Cert.MemQRefIdeal.main_arg0) = m ((c.tc : Thread Cert.MemQRefIdeal.nD Cert.MemQRefIdeal.τ).loc Cert.MemQRefIdeal.main_arg0)
      ∧ r.2.mem ((c.tc : Thread Cert.MemQRefIdeal.nD Cert.MemQRefIdeal.τ).loc Cert.MemQRefIdeal.main_arg1) = m ((c.tc : Thread Cert.MemQRefIdeal.nD Cert.MemQRefIdeal.τ).loc Cert.MemQRefIdeal.main_arg1)
      ∧ r.2.mem ((c.tc : Thread Cert.MemQRefIdeal.nD Cert.MemQRefIdeal.τ).loc Cert.MemQRefIdeal.main_arg2) = m ((c.tc : Thread Cert.MemQRefIdeal.nD Cert.MemQRefIdeal.τ).loc Cert.MemQRefIdeal.main_arg2))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnIdeal_pre_queries_and_keys [hMemAttnIdeal : Cert.MemAttnIdeal.Facts] [hPre_queries_and_keys : Cert.Pre_queries_and_keys.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_queries_and_keys m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_MemAttnRefIdeal_pre_queries_and_keys [hMemAttnRefIdeal : Cert.MemAttnRefIdeal.Facts] [hPre_queries_and_keys : Cert.Pre_queries_and_keys.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_queries_and_keys m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_QkvEven [hQkvEven : Cert.QkvEven.Facts] : Prop :=
  ∀ (m : (ℓ : Loc Cert.QkvEven.nD Cert.QkvEven.τ Cert.QkvEven.sig) → Buf (Elt Bits) ℓ) (g : Dev Cert.QkvEven.nD → PrngReg), Pre_QkvEven m →
    θ_run (Cert.QkvEven.defs (F := Bits)) (onTc (τ := Cert.QkvEven.τ) (Cert.QkvEven.main (F := Bits))) ⟨m, fun _ => 0, g⟩ (fun r => (∀ c : Dev Cert.QkvEven.nD,
      r.2.mem ((c.tc : Thread Cert.QkvEven.nD Cert.QkvEven.τ).loc Cert.QkvEven.main_arg0) = m ((c.tc : Thread Cert.QkvEven.nD Cert.QkvEven.τ).loc Cert.QkvEven.main_arg0)
      ∧ r.2.mem ((c.tc : Thread Cert.QkvEven.nD Cert.QkvEven.τ).loc Cert.QkvEven.main_arg1) = m ((c.tc : Thread Cert.QkvEven.nD Cert.QkvEven.τ).loc Cert.QkvEven.main_arg1)
      ∧ r.2.mem ((c.tc : Thread Cert.QkvEven.nD Cert.QkvEven.τ).loc Cert.QkvEven.main_arg2) = m ((c.tc : Thread Cert.QkvEven.nD Cert.QkvEven.τ).loc Cert.QkvEven.main_arg2)
      ∧ r.2.mem ((c.tc : Thread Cert.QkvEven.nD Cert.QkvEven.τ).loc Cert.QkvEven.main_arg3) = m ((c.tc : Thread Cert.QkvEven.nD Cert.QkvEven.τ).loc Cert.QkvEven.main_arg3))
      ∧ r.2.sem = fun _ => 0)

def quiescent_QkvEvenIdeal [hQkvEvenIdeal : Cert.QkvEvenIdeal.Facts] : Prop :=
  ∀ (m : (ℓ : Loc Cert.QkvEvenIdeal.nD Cert.QkvEvenIdeal.τ Cert.QkvEvenIdeal.sig) → Buf (Elt Ideal) ℓ) (g : Dev Cert.QkvEvenIdeal.nD → PrngReg), Pre_QkvEvenIdeal m →
    θ_run (Cert.QkvEvenIdeal.defs (F := Ideal)) (onTc (τ := Cert.QkvEvenIdeal.τ) (Cert.QkvEvenIdeal.main (F := Ideal))) ⟨m, fun _ => 0, g⟩ (fun r => (∀ c : Dev Cert.QkvEvenIdeal.nD,
      r.2.mem ((c.tc : Thread Cert.QkvEvenIdeal.nD Cert.QkvEvenIdeal.τ).loc Cert.QkvEvenIdeal.main_arg0) = m ((c.tc : Thread Cert.QkvEvenIdeal.nD Cert.QkvEvenIdeal.τ).loc Cert.QkvEvenIdeal.main_arg0)
      ∧ r.2.mem ((c.tc : Thread Cert.QkvEvenIdeal.nD Cert.QkvEvenIdeal.τ).loc Cert.QkvEvenIdeal.main_arg1) = m ((c.tc : Thread Cert.QkvEvenIdeal.nD Cert.QkvEvenIdeal.τ).loc Cert.QkvEvenIdeal.main_arg1)
      ∧ r.2.mem ((c.tc : Thread Cert.QkvEvenIdeal.nD Cert.QkvEvenIdeal.τ).loc Cert.QkvEvenIdeal.main_arg2) = m ((c.tc : Thread Cert.QkvEvenIdeal.nD Cert.QkvEvenIdeal.τ).loc Cert.QkvEvenIdeal.main_arg2)
      ∧ r.2.mem ((c.tc : Thread Cert.QkvEvenIdeal.nD Cert.QkvEvenIdeal.τ).loc Cert.QkvEvenIdeal.main_arg3) = m ((c.tc : Thread Cert.QkvEvenIdeal.nD Cert.QkvEvenIdeal.τ).loc Cert.QkvEvenIdeal.main_arg3))
      ∧ r.2.sem = fun _ => 0)

def quiescent_QkvEvenRefIdeal [hQkvEvenRefIdeal : Cert.QkvEvenRefIdeal.Facts] : Prop :=
  ∀ (m : (ℓ : Loc Cert.QkvEvenRefIdeal.nD Cert.QkvEvenRefIdeal.τ Cert.QkvEvenRefIdeal.sig) → Buf (Elt Ideal) ℓ) (g : Dev Cert.QkvEvenRefIdeal.nD → PrngReg), Pre_QkvEvenRefIdeal m →
    θ_run (Cert.QkvEvenRefIdeal.defs (F := Ideal)) (onTc (τ := Cert.QkvEvenRefIdeal.τ) (Cert.QkvEvenRefIdeal.main (F := Ideal))) ⟨m, fun _ => 0, g⟩ (fun r => (∀ c : Dev Cert.QkvEvenRefIdeal.nD,
      r.2.mem ((c.tc : Thread Cert.QkvEvenRefIdeal.nD Cert.QkvEvenRefIdeal.τ).loc Cert.QkvEvenRefIdeal.main_arg0) = m ((c.tc : Thread Cert.QkvEvenRefIdeal.nD Cert.QkvEvenRefIdeal.τ).loc Cert.QkvEvenRefIdeal.main_arg0)
      ∧ r.2.mem ((c.tc : Thread Cert.QkvEvenRefIdeal.nD Cert.QkvEvenRefIdeal.τ).loc Cert.QkvEvenRefIdeal.main_arg1) = m ((c.tc : Thread Cert.QkvEvenRefIdeal.nD Cert.QkvEvenRefIdeal.τ).loc Cert.QkvEvenRefIdeal.main_arg1)
      ∧ r.2.mem ((c.tc : Thread Cert.QkvEvenRefIdeal.nD Cert.QkvEvenRefIdeal.τ).loc Cert.QkvEvenRefIdeal.main_arg2) = m ((c.tc : Thread Cert.QkvEvenRefIdeal.nD Cert.QkvEvenRefIdeal.τ).loc Cert.QkvEvenRefIdeal.main_arg2)
      ∧ r.2.mem ((c.tc : Thread Cert.QkvEvenRefIdeal.nD Cert.QkvEvenRefIdeal.τ).loc Cert.QkvEvenRefIdeal.main_arg3) = m ((c.tc : Thread Cert.QkvEvenRefIdeal.nD Cert.QkvEvenRefIdeal.τ).loc Cert.QkvEvenRefIdeal.main_arg3))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_MemQ_MemQIdeal : Prop :=
  True

def algebraic_MemQIdeal_MemQRefIdeal [hMemQIdeal : Cert.MemQIdeal.Facts] [hMemQRefIdeal : Cert.MemQRefIdeal.Facts] : Prop :=
  ∀ (m : (ℓ : Loc Cert.MemQIdeal.nD Cert.MemQIdeal.τ Cert.MemQIdeal.sig) → Buf (Elt Ideal) ℓ) (g : Dev Cert.MemQIdeal.nD → PrngReg)
    (m' : (ℓ : Loc Cert.MemQRefIdeal.nD Cert.MemQRefIdeal.τ Cert.MemQRefIdeal.sig) → Buf (Elt Ideal) ℓ) (g' : Dev Cert.MemQRefIdeal.nD → PrngReg), Pre_MemQIdeal m →
    (∀ c : Dev Cert.MemQIdeal.nD,
      m' ((c.tc : Thread Cert.MemQRefIdeal.nD Cert.MemQRefIdeal.τ).loc Cert.MemQRefIdeal.main_arg0) = m ((c.tc : Thread Cert.MemQIdeal.nD Cert.MemQIdeal.τ).loc Cert.MemQIdeal.main_arg0)
      ∧ m' ((c.tc : Thread Cert.MemQRefIdeal.nD Cert.MemQRefIdeal.τ).loc Cert.MemQRefIdeal.main_arg1) = m ((c.tc : Thread Cert.MemQIdeal.nD Cert.MemQIdeal.τ).loc Cert.MemQIdeal.main_arg1)
      ∧ m' ((c.tc : Thread Cert.MemQRefIdeal.nD Cert.MemQRefIdeal.τ).loc Cert.MemQRefIdeal.main_arg2) = m ((c.tc : Thread Cert.MemQIdeal.nD Cert.MemQIdeal.τ).loc Cert.MemQIdeal.main_arg2)) →
    ∃ (v0 : (c : Dev Cert.MemQIdeal.nD) → Buf (Elt Ideal) ((c.tc : Thread Cert.MemQIdeal.nD Cert.MemQIdeal.τ).loc Cert.MemQIdeal.main_v2)),
      θ_run (Cert.MemQIdeal.defs (F := Ideal)) (onTc (τ := Cert.MemQIdeal.τ) (Cert.MemQIdeal.main (F := Ideal))) ⟨m, fun _ => 0, g⟩ (fun r => ∀ c : Dev Cert.MemQIdeal.nD,
          r.2.mem ((c.tc : Thread Cert.MemQIdeal.nD Cert.MemQIdeal.τ).loc Cert.MemQIdeal.main_v2) = v0 c
          ∧ r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
          ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1)
          ∧ r.2.mem ((c.tc : Thread Cert.MemQIdeal.nD Cert.MemQIdeal.τ).loc Cert.MemQIdeal.main_arg2) = m ((c.tc : Thread Cert.MemQIdeal.nD Cert.MemQIdeal.τ).loc Cert.MemQIdeal.main_arg2))
      ∧ θ_run (Cert.MemQRefIdeal.defs (F := Ideal)) (onTc (τ := Cert.MemQRefIdeal.τ) (Cert.MemQRefIdeal.main (F := Ideal))) ⟨m', fun _ => 0, g'⟩ (fun r => ∀ c : Dev Cert.MemQRefIdeal.nD,
          r.2.mem ((c.tc : Thread Cert.MemQRefIdeal.nD Cert.MemQRefIdeal.τ).loc Cert.MemQRefIdeal.main_v14) = v0 c
          ∧ r.2.mem ((c.tc : Thread Cert.MemQRefIdeal.nD Cert.MemQRefIdeal.τ).loc Cert.MemQRefIdeal.main_arg0) = m' ((c.tc : Thread Cert.MemQRefIdeal.nD Cert.MemQRefIdeal.τ).loc Cert.MemQRefIdeal.main_arg0)
          ∧ r.2.mem ((c.tc : Thread Cert.MemQRefIdeal.nD Cert.MemQRefIdeal.τ).loc Cert.MemQRefIdeal.main_arg1) = m' ((c.tc : Thread Cert.MemQRefIdeal.nD Cert.MemQRefIdeal.τ).loc Cert.MemQRefIdeal.main_arg1)
          ∧ r.2.mem ((c.tc : Thread Cert.MemQRefIdeal.nD Cert.MemQRefIdeal.τ).loc Cert.MemQRefIdeal.main_arg2) = m' ((c.tc : Thread Cert.MemQRefIdeal.nD Cert.MemQRefIdeal.τ).loc Cert.MemQRefIdeal.main_arg2))

def preserves_MemAttn_MemAttnIdeal : Prop :=
  True

def algebraic_MemAttnIdeal_MemAttnRefIdeal_pre_queries_and_keys [hMemAttnIdeal : Cert.MemAttnIdeal.Facts] [hMemAttnRefIdeal : Cert.MemAttnRefIdeal.Facts] [hPre_queries_and_keys : Cert.Pre_queries_and_keys.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_queries_and_keys m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)) →
    ∃ (v0 : (c : Dev Cert.MemAttnIdeal.nD) → Buf (Elt Ideal) ((c.tc : Thread Cert.MemAttnIdeal.nD Cert.MemAttnIdeal.τ).loc Cert.MemAttnIdeal.main_v2)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v2) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v22) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v33_0)) (v1 : (c : Dev Cert.QkvIdeal.nD) → Buf (Elt Ideal) ((c.tc : Thread Cert.QkvIdeal.nD Cert.QkvIdeal.τ).loc Cert.QkvIdeal.main_v33_1)) (v2 : (c : Dev Cert.QkvIdeal.nD) → Buf (Elt Ideal) ((c.tc : Thread Cert.QkvIdeal.nD Cert.QkvIdeal.τ).loc Cert.QkvIdeal.main_v33_2)) (v3 : (c : Dev Cert.QkvIdeal.nD) → Buf (Elt Ideal) ((c.tc : Thread Cert.QkvIdeal.nD Cert.QkvIdeal.τ).loc Cert.QkvIdeal.main_v33_3)) (v4 : (c : Dev Cert.QkvIdeal.nD) → Buf (Elt Ideal) ((c.tc : Thread Cert.QkvIdeal.nD Cert.QkvIdeal.τ).loc Cert.QkvIdeal.main_v33_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v33_0) = v0 c
          ∧ r.2.mem ((c.tc : Thread Cert.QkvIdeal.nD Cert.QkvIdeal.τ).loc Cert.QkvIdeal.main_v33_1) = v1 c
          ∧ r.2.mem ((c.tc : Thread Cert.QkvIdeal.nD Cert.QkvIdeal.τ).loc Cert.QkvIdeal.main_v33_2) = v2 c
          ∧ r.2.mem ((c.tc : Thread Cert.QkvIdeal.nD Cert.QkvIdeal.τ).loc Cert.QkvIdeal.main_v33_3) = v3 c
          ∧ r.2.mem ((c.tc : Thread Cert.QkvIdeal.nD Cert.QkvIdeal.τ).loc Cert.QkvIdeal.main_v33_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v85) = v0 c
          ∧ r.2.mem ((c.tc : Thread Cert.QkvRefIdeal.nD Cert.QkvRefIdeal.τ).loc Cert.QkvRefIdeal.main_v84) = v1 c
          ∧ r.2.mem ((c.tc : Thread Cert.QkvRefIdeal.nD Cert.QkvRefIdeal.τ).loc Cert.QkvRefIdeal.main_v16) = v2 c
          ∧ r.2.mem ((c.tc : Thread Cert.QkvRefIdeal.nD Cert.QkvRefIdeal.τ).loc Cert.QkvRefIdeal.main_v86) = v3 c
          ∧ r.2.mem ((c.tc : Thread Cert.QkvRefIdeal.nD Cert.QkvRefIdeal.τ).loc Cert.QkvRefIdeal.main_v87) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_QkvEven_QkvEvenIdeal : Prop :=
  True

def algebraic_QkvEvenIdeal_QkvEvenRefIdeal [hQkvEvenIdeal : Cert.QkvEvenIdeal.Facts] [hQkvEvenRefIdeal : Cert.QkvEvenRefIdeal.Facts] : Prop :=
  ∀ (m : (ℓ : Loc Cert.QkvEvenIdeal.nD Cert.QkvEvenIdeal.τ Cert.QkvEvenIdeal.sig) → Buf (Elt Ideal) ℓ) (g : Dev Cert.QkvEvenIdeal.nD → PrngReg)
    (m' : (ℓ : Loc Cert.QkvEvenRefIdeal.nD Cert.QkvEvenRefIdeal.τ Cert.QkvEvenRefIdeal.sig) → Buf (Elt Ideal) ℓ) (g' : Dev Cert.QkvEvenRefIdeal.nD → PrngReg), Pre_QkvEvenIdeal m →
    (∀ c : Dev Cert.QkvEvenIdeal.nD,
      m' ((c.tc : Thread Cert.QkvEvenRefIdeal.nD Cert.QkvEvenRefIdeal.τ).loc Cert.QkvEvenRefIdeal.main_arg0) = m ((c.tc : Thread Cert.QkvEvenIdeal.nD Cert.QkvEvenIdeal.τ).loc Cert.QkvEvenIdeal.main_arg0)
      ∧ m' ((c.tc : Thread Cert.QkvEvenRefIdeal.nD Cert.QkvEvenRefIdeal.τ).loc Cert.QkvEvenRefIdeal.main_arg1) = m ((c.tc : Thread Cert.QkvEvenIdeal.nD Cert.QkvEvenIdeal.τ).loc Cert.QkvEvenIdeal.main_arg1)
      ∧ m' ((c.tc : Thread Cert.QkvEvenRefIdeal.nD Cert.QkvEvenRefIdeal.τ).loc Cert.QkvEvenRefIdeal.main_arg2) = m ((c.tc : Thread Cert.QkvEvenIdeal.nD Cert.QkvEvenIdeal.τ).loc Cert.QkvEvenIdeal.main_arg2)
      ∧ m' ((c.tc : Thread Cert.QkvEvenRefIdeal.nD Cert.QkvEvenRefIdeal.τ).loc Cert.QkvEvenRefIdeal.main_arg3) = m ((c.tc : Thread Cert.QkvEvenIdeal.nD Cert.QkvEvenIdeal.τ).loc Cert.QkvEvenIdeal.main_arg3)) →
    ∃ (v0 : (c : Dev Cert.QkvEvenIdeal.nD) → Buf (Elt Ideal) ((c.tc : Thread Cert.QkvEvenIdeal.nD Cert.QkvEvenIdeal.τ).loc Cert.QkvEvenIdeal.main_v59_0)) (v1 : (c : Dev Cert.QkvEvenIdeal.nD) → Buf (Elt Ideal) ((c.tc : Thread Cert.QkvEvenIdeal.nD Cert.QkvEvenIdeal.τ).loc Cert.QkvEvenIdeal.main_v59_1)) (v2 : (c : Dev Cert.QkvEvenIdeal.nD) → Buf (Elt Ideal) ((c.tc : Thread Cert.QkvEvenIdeal.nD Cert.QkvEvenIdeal.τ).loc Cert.QkvEvenIdeal.main_v59_2)) (v3 : (c : Dev Cert.QkvEvenIdeal.nD) → Buf (Elt Ideal) ((c.tc : Thread Cert.QkvEvenIdeal.nD Cert.QkvEvenIdeal.τ).loc Cert.QkvEvenIdeal.main_v59_3)) (v4 : (c : Dev Cert.QkvEvenIdeal.nD) → Buf (Elt Ideal) ((c.tc : Thread Cert.QkvEvenIdeal.nD Cert.QkvEvenIdeal.τ).loc Cert.QkvEvenIdeal.main_v59_4)),
      θ_run (Cert.QkvEvenIdeal.defs (F := Ideal)) (onTc (τ := Cert.QkvEvenIdeal.τ) (Cert.QkvEvenIdeal.main (F := Ideal))) ⟨m, fun _ => 0, g⟩ (fun r => ∀ c : Dev Cert.QkvEvenIdeal.nD,
          r.2.mem ((c.tc : Thread Cert.QkvEvenIdeal.nD Cert.QkvEvenIdeal.τ).loc Cert.QkvEvenIdeal.main_v59_0) = v0 c
          ∧ r.2.mem ((c.tc : Thread Cert.QkvEvenIdeal.nD Cert.QkvEvenIdeal.τ).loc Cert.QkvEvenIdeal.main_v59_1) = v1 c
          ∧ r.2.mem ((c.tc : Thread Cert.QkvEvenIdeal.nD Cert.QkvEvenIdeal.τ).loc Cert.QkvEvenIdeal.main_v59_2) = v2 c
          ∧ r.2.mem ((c.tc : Thread Cert.QkvEvenIdeal.nD Cert.QkvEvenIdeal.τ).loc Cert.QkvEvenIdeal.main_v59_3) = v3 c
          ∧ r.2.mem ((c.tc : Thread Cert.QkvEvenIdeal.nD Cert.QkvEvenIdeal.τ).loc Cert.QkvEvenIdeal.main_v59_4) = v4 c
          ∧ r.2.mem ((c.tc : Thread Cert.QkvEvenIdeal.nD Cert.QkvEvenIdeal.τ).loc Cert.QkvEvenIdeal.main_arg0) = m ((c.tc : Thread Cert.QkvEvenIdeal.nD Cert.QkvEvenIdeal.τ).loc Cert.QkvEvenIdeal.main_arg0)
          ∧ r.2.mem ((c.tc : Thread Cert.QkvEvenIdeal.nD Cert.QkvEvenIdeal.τ).loc Cert.QkvEvenIdeal.main_arg1) = m ((c.tc : Thread Cert.QkvEvenIdeal.nD Cert.QkvEvenIdeal.τ).loc Cert.QkvEvenIdeal.main_arg1)
          ∧ r.2.mem ((c.tc : Thread Cert.QkvEvenIdeal.nD Cert.QkvEvenIdeal.τ).loc Cert.QkvEvenIdeal.main_arg2) = m ((c.tc : Thread Cert.QkvEvenIdeal.nD Cert.QkvEvenIdeal.τ).loc Cert.QkvEvenIdeal.main_arg2)
          ∧ r.2.mem ((c.tc : Thread Cert.QkvEvenIdeal.nD Cert.QkvEvenIdeal.τ).loc Cert.QkvEvenIdeal.main_arg3) = m ((c.tc : Thread Cert.QkvEvenIdeal.nD Cert.QkvEvenIdeal.τ).loc Cert.QkvEvenIdeal.main_arg3))
      ∧ θ_run (Cert.QkvEvenRefIdeal.defs (F := Ideal)) (onTc (τ := Cert.QkvEvenRefIdeal.τ) (Cert.QkvEvenRefIdeal.main (F := Ideal))) ⟨m', fun _ => 0, g'⟩ (fun r => ∀ c : Dev Cert.QkvEvenRefIdeal.nD,
          r.2.mem ((c.tc : Thread Cert.QkvEvenRefIdeal.nD Cert.QkvEvenRefIdeal.τ).loc Cert.QkvEvenRefIdeal.main_v96) = v0 c
          ∧ r.2.mem ((c.tc : Thread Cert.QkvEvenRefIdeal.nD Cert.QkvEvenRefIdeal.τ).loc Cert.QkvEvenRefIdeal.main_v91) = v1 c
          ∧ r.2.mem ((c.tc : Thread Cert.QkvEvenRefIdeal.nD Cert.QkvEvenRefIdeal.τ).loc Cert.QkvEvenRefIdeal.main_v95) = v2 c
          ∧ r.2.mem ((c.tc : Thread Cert.QkvEvenRefIdeal.nD Cert.QkvEvenRefIdeal.τ).loc Cert.QkvEvenRefIdeal.main_v97) = v3 c
          ∧ r.2.mem ((c.tc : Thread Cert.QkvEvenRefIdeal.nD Cert.QkvEvenRefIdeal.τ).loc Cert.QkvEvenRefIdeal.main_v98) = v4 c
          ∧ r.2.mem ((c.tc : Thread Cert.QkvEvenRefIdeal.nD Cert.QkvEvenRefIdeal.τ).loc Cert.QkvEvenRefIdeal.main_arg0) = m' ((c.tc : Thread Cert.QkvEvenRefIdeal.nD Cert.QkvEvenRefIdeal.τ).loc Cert.QkvEvenRefIdeal.main_arg0)
          ∧ r.2.mem ((c.tc : Thread Cert.QkvEvenRefIdeal.nD Cert.QkvEvenRefIdeal.τ).loc Cert.QkvEvenRefIdeal.main_arg1) = m' ((c.tc : Thread Cert.QkvEvenRefIdeal.nD Cert.QkvEvenRefIdeal.τ).loc Cert.QkvEvenRefIdeal.main_arg1)
          ∧ r.2.mem ((c.tc : Thread Cert.QkvEvenRefIdeal.nD Cert.QkvEvenRefIdeal.τ).loc Cert.QkvEvenRefIdeal.main_arg2) = m' ((c.tc : Thread Cert.QkvEvenRefIdeal.nD Cert.QkvEvenRefIdeal.τ).loc Cert.QkvEvenRefIdeal.main_arg2)
          ∧ r.2.mem ((c.tc : Thread Cert.QkvEvenRefIdeal.nD Cert.QkvEvenRefIdeal.τ).loc Cert.QkvEvenRefIdeal.main_arg3) = m' ((c.tc : Thread Cert.QkvEvenRefIdeal.nD Cert.QkvEvenRefIdeal.τ).loc Cert.QkvEvenRefIdeal.main_arg3))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMemKv : Cert.MemKv.Facts) (hMemKvIdeal : Cert.MemKvIdeal.Facts) (hMemKvRefIdeal : Cert.MemKvRefIdeal.Facts) (hOutProj : Cert.OutProj.Facts) (hOutProjIdeal : Cert.OutProjIdeal.Facts) (hOutProjRefIdeal : Cert.OutProjRefIdeal.Facts) (hMemQ : Cert.MemQ.Facts) (hMemQIdeal : Cert.MemQIdeal.Facts) (hMemQRefIdeal : Cert.MemQRefIdeal.Facts) (hMemAttn : Cert.MemAttn.Facts) (hMemAttnIdeal : Cert.MemAttnIdeal.Facts) (hMemAttnRefIdeal : Cert.MemAttnRefIdeal.Facts) (hQkv : Cert.Qkv.Facts) (hQkvIdeal : Cert.QkvIdeal.Facts) (hQkvRefIdeal : Cert.QkvRefIdeal.Facts) (hQkvEven : Cert.QkvEven.Facts) (hQkvEvenIdeal : Cert.QkvEvenIdeal.Facts) (hQkvEvenRefIdeal : Cert.QkvEvenRefIdeal.Facts) (hFinalNorm : Cert.FinalNorm.Facts) (hFinalNormIdeal : Cert.FinalNormIdeal.Facts) (hFinalNormRefIdeal : Cert.FinalNormRefIdeal.Facts) (hPre_finite_inputs : Cert.Pre_finite_inputs.Facts) (hPre_queries_and_keys : Cert.Pre_queries_and_keys.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Ffn (hFfn := hFfn)
    ∧ quiescent_FfnIdeal (hFfnIdeal := hFfnIdeal)
    ∧ quiescent_FfnRefIdeal (hFfnRefIdeal := hFfnRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MemQ (hMemQ := hMemQ)
    ∧ quiescent_MemQIdeal (hMemQIdeal := hMemQIdeal)
    ∧ quiescent_MemQRefIdeal (hMemQRefIdeal := hMemQRefIdeal)
    ∧ quiescent_MemAttn (hMemAttn := hMemAttn)
    ∧ quiescent_MemAttnIdeal (hMemAttnIdeal := hMemAttnIdeal)
    ∧ quiescent_MemAttnIdeal_pre_queries_and_keys (hMemAttnIdeal := hMemAttnIdeal) (hPre_queries_and_keys := hPre_queries_and_keys)
    ∧ quiescent_MemAttnRefIdeal (hMemAttnRefIdeal := hMemAttnRefIdeal)
    ∧ quiescent_MemAttnRefIdeal_pre_queries_and_keys (hMemAttnRefIdeal := hMemAttnRefIdeal) (hPre_queries_and_keys := hPre_queries_and_keys)
    ∧ quiescent_Qkv (hQkv := hQkv)
    ∧ quiescent_QkvIdeal (hQkvIdeal := hQkvIdeal)
    ∧ quiescent_QkvRefIdeal (hQkvRefIdeal := hQkvRefIdeal)
    ∧ quiescent_QkvEven (hQkvEven := hQkvEven)
    ∧ quiescent_QkvEvenIdeal (hQkvEvenIdeal := hQkvEvenIdeal)
    ∧ quiescent_QkvEvenRefIdeal (hQkvEvenRefIdeal := hQkvEvenRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Ffn_FfnIdeal
    ∧ algebraic_FfnIdeal_FfnRefIdeal (hFfnIdeal := hFfnIdeal) (hFfnRefIdeal := hFfnRefIdeal)
    ∧ preserves_MemKv_MemKvIdeal
    ∧ algebraic_MemKvIdeal_MemKvRefIdeal (hMemKvIdeal := hMemKvIdeal) (hMemKvRefIdeal := hMemKvRefIdeal)
    ∧ preserves_OutProj_OutProjIdeal
    ∧ algebraic_OutProjIdeal_OutProjRefIdeal (hOutProjIdeal := hOutProjIdeal) (hOutProjRefIdeal := hOutProjRefIdeal)
    ∧ preserves_MemQ_MemQIdeal
    ∧ algebraic_MemQIdeal_MemQRefIdeal (hMemQIdeal := hMemQIdeal) (hMemQRefIdeal := hMemQRefIdeal)
    ∧ preserves_MemAttn_MemAttnIdeal
    ∧ algebraic_MemAttnIdeal_MemAttnRefIdeal_pre_queries_and_keys (hMemAttnIdeal := hMemAttnIdeal) (hMemAttnRefIdeal := hMemAttnRefIdeal) (hPre_queries_and_keys := hPre_queries_and_keys)
    ∧ preserves_Qkv_QkvIdeal
    ∧ algebraic_QkvIdeal_QkvRefIdeal (hQkvIdeal := hQkvIdeal) (hQkvRefIdeal := hQkvRefIdeal)
    ∧ preserves_QkvEven_QkvEvenIdeal
    ∧ algebraic_QkvEvenIdeal_QkvEvenRefIdeal (hQkvEvenIdeal := hQkvEvenIdeal) (hQkvEvenRefIdeal := hQkvEvenRefIdeal)
    ∧ preserves_FinalNorm_FinalNormIdeal
    ∧ algebraic_FinalNormIdeal_FinalNormRefIdeal (hFinalNormIdeal := hFinalNormIdeal) (hFinalNormRefIdeal := hFinalNormRefIdeal)
-- ==== Pre_finite_inputs.lean ====
abbrev S16896x1024 : Shape := ⟨2, ![16896, 1024]⟩
abbrev S1 : Shape := ⟨1, ![1]⟩
abbrev S128 : Shape := ⟨1, ![128]⟩
abbrev S16384x512 : Shape := ⟨2, ![16384, 512]⟩
abbrev S_ : Shape := ⟨0, ![]⟩

class Facts : Prop where
  slices_S16896x1024_S16384x512_0_0 : S16896x1024.Slices ![0, 0] S16384x512
  bitsLt_bf16_f32 : FTy.bits .bf16 < FTy.bits .f32
  bcast_S_S16384x512 : S_.BroadcastsInDim S16384x512 (![] : Fin 0 → Fin S16384x512.rank)
  bcast_S_S1 : S_.BroadcastsInDim S1 (![] : Fin 0 → Fin S1.rank)

variable [Facts]

def fn {F : FTy → Type} [FloatOps F] (main_arg0 : FVec F S16896x1024 .bf16) (main_arg1 : FVec F S16896x1024 .bf16) (main_arg2 : FVec F S16896x1024 .bf16) (main_arg3 : FVec F S1 .f32) (main_arg4 : FVec F S128 .f32) : IVec S16384x512 1 × IVec S16384x512 1 × IVec S16384x512 1 × IVec S1 1 :=
  let main_v0 : FVec F S16384x512 .bf16 := (extractStridedSlice S16384x512 ![0, 0] · slices_S16896x1024_S16384x512_0_0) main_arg0
  let main_v1 : FVec F S16384x512 .f32 := (extf .f32 · bitsLt_bf16_f32) main_v0
  let main_v2 : FVec F S16384x512 .f32 := Host.absf main_v1
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_v5 : FVec F S16384x512 .bf16 := (extractStridedSlice S16384x512 ![0, 0] · slices_S16896x1024_S16384x512_0_0) main_arg1
  let main_v6 : FVec F S16384x512 .f32 := (extf .f32 · bitsLt_bf16_f32) main_v5
  let main_v7 : FVec F S16384x512 .f32 := Host.absf main_v6
  let main_cst_0 : FVec F S_ .f32 := constant S_ .f32 0x7F800000#32
  let main_v8 : FVec F S16384x512 .f32 := broadcastInDim S16384x512 ![] bcast_S_S16384x512 main_cst_0
  let main_v9 : IVec S16384x512 1 := cmpf .olt main_v7 main_v8
  let main_v10 : FVec F S16384x512 .bf16 := (extractStridedSlice S16384x512 ![0, 0] · slices_S16896x1024_S16384x512_0_0) main_arg2
  let main_v11 : FVec F S16384x512 .f32 := (extf .f32 · bitsLt_bf16_f32) main_v10
  let main_v12 : FVec F S16384x512 .f32 := Host.absf main_v11
  let main_cst_1 : FVec F S_ .f32 := constant S_ .f32 0x7F800000#32
  let main_v13 : FVec F S16384x512 .f32 := broadcastInDim S16384x512 ![] bcast_S_S16384x512 main_cst_1
  let main_v14 : IVec S16384x512 1 := cmpf .olt main_v12 main_v13
  let main_v15 : FVec F S1 .f32 := Host.absf main_arg3
  let main_cst_2 : FVec F S_ .f32 := constant S_ .f32 0x7F800000#32
  let main_v16 : FVec F S1 .f32 := broadcastInDim S1 ![] bcast_S_S1 main_cst_2
  let main_v17 : IVec S1 1 := cmpf .olt main_v15 main_v16
  (main_v4, main_v9, main_v14, main_v17)
-- ==== Pre_queries_and_keys.lean ====
abbrev S16896x1024 : Shape := ⟨2, ![16896, 1024]⟩
abbrev S512x1024 : Shape := ⟨2, ![512, 1024]⟩
abbrev S16384x1024 : Shape := ⟨2, ![16384, 1024]⟩
abbrev S_ : Shape := ⟨0, ![]⟩

class Facts : Prop where
  slices_S16896x1024_S16384x1024_0_0 : S16896x1024.Slices ![0, 0] S16384x1024
  bitsLt_bf16_f32 : FTy.bits .bf16 < FTy.bits .f32
  bcast_S_S16384x1024 : S_.BroadcastsInDim S16384x1024 (![] : Fin 0 → Fin S16384x1024.rank)
  bcast_S_S512x1024 : S_.BroadcastsInDim S512x1024 (![] : Fin 0 → Fin S512x1024.rank)

variable [Facts]

def fn {F : FTy → Type} [FloatOps F] (main_arg0 : FVec F S16896x1024 .bf16) (main_arg1 : FVec F S512x1024 .f32) (main_arg2 : FVec F S512x1024 .f32) : IVec S16384x1024 1 × IVec S512x1024 1 :=
  let main_v0 : FVec F S16384x1024 .bf16 := (extractStridedSlice S16384x1024 ![0, 0] · slices_S16896x1024_S16384x1024_0_0) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_v5 : FVec F S512x1024 .f32 := Host.absf main_arg1
  let main_cst_0 : FVec F S_ .f32 := constant S_ .f32 0x7F800000#32
  let main_v6 : FVec F S512x1024 .f32 := broadcastInDim S512x1024 ![] bcast_S_S512x1024 main_cst_0
  let main_v7 : IVec S512x1024 1 := cmpf .olt main_v5 main_v6
  (main_v4, main_v7)
-- ==== Kernel.lean ====
abbrev S16896x1024 : Shape := ⟨2, ![16896, 1024]⟩
abbrev S1 : Shape := ⟨1, ![1]⟩
abbrev S128 : Shape := ⟨1, ![128]⟩
abbrev S_ : Shape := ⟨0, ![]⟩
abbrev S1x128 : Shape := ⟨2, ![1, 128]⟩
abbrev S16384x512 : Shape := ⟨2, ![16384, 512]⟩
abbrev S256x128 : Shape := ⟨2, ![256, 128]⟩
abbrev S8192x128 : Shape := ⟨2, ![8192, 128]⟩
abbrev S512x128 : Shape := ⟨2, ![512, 128]⟩
abbrev S512x256 : Shape := ⟨2, ![512, 256]⟩
abbrev S128x128 : Shape := ⟨2, ![128, 128]⟩
abbrev S128x512 : Shape := ⟨2, ![128, 512]⟩
abbrev S128x1 : Shape := ⟨2, ![128, 1]⟩
abbrev S128x256 : Shape := ⟨2, ![128, 256]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x1024, .bf16⟩
  | .hbm, ⟨3, _⟩ => ⟨S1, .f32⟩
  | .hbm, ⟨4, _⟩ => ⟨S128, .f32⟩
  | .hbm, ⟨5, _⟩ => ⟨S_, .f32⟩
  | .hbm, ⟨6, _⟩ => ⟨S1x128, .f32⟩
  | .hbm, ⟨7, _⟩ => ⟨S1x128, .f32⟩
  | .hbm, ⟨8, _⟩ => ⟨S16384x512, .bf16⟩
  | .local _ .vmem, ⟨0, _⟩ => ⟨S1x128, .f32⟩
  | .local _ .vmem, ⟨1, _⟩ => ⟨S1x128, .f32⟩
  | .local _ .vmem, ⟨2, _⟩ => ⟨S256x128, .bf16⟩
  | .local _ .vmem, ⟨3, _⟩ => ⟨S256x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S256x128, .bf16⟩
  | .local _ .vmem, ⟨9, _⟩ => ⟨S256x128, .bf16⟩
  | .local _ .vmem, ⟨10, _⟩ => ⟨S512x128, .f32⟩
  | .local _ .vmem, ⟨11, _⟩ => ⟨S512x256, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_2 : BitVec 32 := 0#32
  let v18 : BitVec 1 := Scalar.cmpi .slt v14 c0_i32_2
  let v19 : BitVec 32 := Scalar.extui v18
  let v20 : BitVec 32 := Scalar.subi v17 v19
  let c512_i32 : BitVec 32 := 512#32
  let c0_i32_3 : BitVec 32 := 0#32
  let v21 : BitVec 1 := Scalar.cmpi .sgt c512_i32 c0_i32_3
  let v22 : BitVec 32 := Scalar.extui v21
  let c0_i32_4 : BitVec 32 := 0#32
  let v23 : BitVec 1 := Scalar.cmpi .slt c512_i32 c0_i32_4
  let v24 : BitVec 32 := Scalar.extui v23
  let v25 : BitVec 32 := Scalar.subi v22 v24
  let v26 : BitVec 1 := Scalar.cmpi .ne v20 v25
  let v27 : BitVec 32 := Scalar.remsi v14 c512_i32
  let c0_i32_5 : BitVec 32 := 0#32
  let v28 : BitVec 1 := Scalar.cmpi .ne v27 c0_i32_5
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let c512_i32_6 : BitVec 32 := 512#32
  let v32 : BitVec 32 := Scalar.muli v31 c512_i32_6
  v32
def k0_off1 (i : grid0.Coords) : Fin 2 → Nat :=
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_2 : BitVec 32 := 0#32
  let v18 : BitVec 1 := Scalar.cmpi .slt v14 c0_i32_2
  let v19 : BitVec 32 := Scalar.extui v18
  let v20 : BitVec 32 := Scalar.subi v17 v19
  let c512_i32 : BitVec 32 := 512#32
  let c0_i32_3 : BitVec 32 := 0#32
  let v21 : BitVec 1 := Scalar.cmpi .sgt c512_i32 c0_i32_3
  let v22 : BitVec 32 := Scalar.extui v21
  let c0_i32_4 : BitVec 32 := 0#32
  let v23 : BitVec 1 := Scalar.cmpi .slt c512_i32 c0_i32_4
  let v24 : BitVec 32 := Scalar.extui v23
  let v25 : BitVec 32 := Scalar.subi v22 v24
  let v26 : BitVec 1 := Scalar.cmpi .ne v20 v25
  let v27 : BitVec 32 := Scalar.remsi v14 c512_i32
  let c0_i32_5 : BitVec 32 := 0#32
  let v28 : BitVec 1 := Scalar.cmpi .ne v27 c0_i32_5
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let c512_i32_6 : BitVec 32 := 512#32
  let v32 : BitVec 32 := Scalar.muli v31 c512_i32_6
  let v33 : BitVec 32 := v32
  let v34 : Index := Scalar.indexCast v33
  let c0_7 : Index := 0#32
  ![v34.toNat, 0]
def k0_mult2 (i : grid0.Coords) : BitVec 32 :=
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_2 : BitVec 32 := 0#32
  let v18 : BitVec 1 := Scalar.cmpi .slt v14 c0_i32_2
  let v19 : BitVec 32 := Scalar.extui v18
  let v20 : BitVec 32 := Scalar.subi v17 v19
  let c512_i32 : BitVec 32 := 512#32
  let c0_i32_3 : BitVec 32 := 0#32
  let v21 : BitVec 1 := Scalar.cmpi .sgt c512_i32 c0_i32_3
  let v22 : BitVec 32 := Scalar.extui v21
  let c0_i32_4 : BitVec 32 := 0#32
  let v23 : BitVec 1 := Scalar.cmpi .slt c512_i32 c0_i32_4
  let v24 : BitVec 32 := Scalar.extui v23
  let v25 : BitVec 32 := Scalar.subi v22 v24
  let v26 : BitVec 1 := Scalar.cmpi .ne v20 v25
  let v27 : BitVec 32 := Scalar.remsi v14 c512_i32
  let c0_i32_5 : BitVec 32 := 0#32
  let v28 : BitVec 1 := Scalar.cmpi .ne v27 c0_i32_5
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let c512_i32_8 : BitVec 32 := 512#32
  let v36 : BitVec 32 := Scalar.muli v31 c512_i32_8
  v36
@[reducible] def k0_t1_loop (i : grid0.Coords) : Scf.Loop 32 :=
  let c0_i32_52 : BitVec 32 := 0#32
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_2 : BitVec 32 := 0#32
  let v18 : BitVec 1 := Scalar.cmpi .slt v14 c0_i32_2
  let v19 : BitVec 32 := Scalar.extui v18
  let v20 : BitVec 32 := Scalar.subi v17 v19
  let c512_i32 : BitVec 32 := 512#32
  let c0_i32_3 : BitVec 32 := 0#32
  let v21 : BitVec 1 := Scalar.cmpi .sgt c512_i32 c0_i32_3
  let v22 : BitVec 32 := Scalar.extui v21
  let c0_i32_4 : BitVec 32 := 0#32
  let v23 : BitVec 1 := Scalar.cmpi .slt c512_i32 c0_i32_4
  let v24 : BitVec 32 := Scalar.extui v23
  let v25 : BitVec 32 := Scalar.subi v22 v24
  let v26 : BitVec 1 := Scalar.cmpi .ne v20 v25
  let v27 : BitVec 32 := Scalar.remsi v14 c512_i32
  let c0_i32_5 : BitVec 32 := 0#32
  let v28 : BitVec 1 := Scalar.cmpi .ne v27 c0_i32_5
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v210 : BitVec 32 := Scalar.subi v31 c0_i32_52
  let c1_i32_53 : BitVec 32 := 1#32
  let v212 : BitVec 32 := Scalar.divsi v210 c1_i32_53
  let v213 : BitVec 32 := Scalar.muli v212 c1_i32_53
  let v214 : BitVec 32 := Scalar.addi c0_i32_52 v213
  let c1_i32_54 : BitVec 32 := 1#32
  ⟨c0_i32_52, v214, c1_i32_54⟩
def k0_mult3 (i : grid0.Coords) (k0_t1 : Fin (k0_t1_loop i).trips) : BitVec 32 :=
  let c0_i32_52 : BitVec 32 := 0#32
  let c1_i32_54 : BitVec 32 := 1#32
  let arg11 : BitVec 32 := Scf.iv c0_i32_52 c1_i32_54 k0_t1
  let c512_i32_70 : BitVec 32 := 512#32
  let v243 : BitVec 32 := Scalar.muli arg11 c512_i32_70
  v243
def k0_off2 (i : grid0.Coords) (k0_t1 : Fin (k0_t1_loop i).trips) : Fin 2 → Nat :=
  let c0_i32_52 : BitVec 32 := 0#32
  let c1_i32_54 : BitVec 32 := 1#32
  let arg11 : BitVec 32 := Scf.iv c0_i32_52 c1_i32_54 k0_t1
  let c512_i32_70 : BitVec 32 := 512#32
  let v243 : BitVec 32 := Scalar.muli arg11 c512_i32_70
  let v244 : BitVec 32 := v243
  let v245 : Index := Scalar.indexCast v244
  let c0_71 : Index := 0#32
  ![v245.toNat, 0]
def k0_mult4 (i : grid0.Coords) (k0_t1 : Fin (k0_t1_loop i).trips) : BitVec 32 :=
  let c0_i32_52 : BitVec 32 := 0#32
  let c1_i32_54 : BitVec 32 := 1#32
  let arg11 : BitVec 32 := Scf.iv c0_i32_52 c1_i32_54 k0_t1
  let c512_i32_72 : BitVec 32 := 512#32
  let v247 : BitVec 32 := Scalar.muli arg11 c512_i32_72
  v247
@[reducible] def k0_t2_loop (i : grid0.Coords) : Scf.Loop 32 :=
  let c0_i32_52 : BitVec 32 := 0#32
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_2 : BitVec 32 := 0#32
  let v18 : BitVec 1 := Scalar.cmpi .slt v14 c0_i32_2
  let v19 : BitVec 32 := Scalar.extui v18
  let v20 : BitVec 32 := Scalar.subi v17 v19
  let c512_i32 : BitVec 32 := 512#32
  let c0_i32_3 : BitVec 32 := 0#32
  let v21 : BitVec 1 := Scalar.cmpi .sgt c512_i32 c0_i32_3
  let v22 : BitVec 32 := Scalar.extui v21
  let c0_i32_4 : BitVec 32 := 0#32
  let v23 : BitVec 1 := Scalar.cmpi .slt c512_i32 c0_i32_4
  let v24 : BitVec 32 := Scalar.extui v23
  let v25 : BitVec 32 := Scalar.subi v22 v24
  let v26 : BitVec 1 := Scalar.cmpi .ne v20 v25
  let v27 : BitVec 32 := Scalar.remsi v14 c512_i32
  let c0_i32_5 : BitVec 32 := 0#32
  let v28 : BitVec 1 := Scalar.cmpi .ne v27 c0_i32_5
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v210 : BitVec 32 := Scalar.subi v31 c0_i32_52
  let c1_i32_53 : BitVec 32 := 1#32
  let v212 : BitVec 32 := Scalar.divsi v210 c1_i32_53
  let v213 : BitVec 32 := Scalar.muli v212 c1_i32_53
  let v214 : BitVec 32 := Scalar.addi c0_i32_52 v213
  let v211 : BitVec 32 := Scalar.addi c0_i32_52 v210
  let c1_i32_55 : BitVec 32 := 1#32
  ⟨v214, v211, c1_i32_55⟩
def k0_mult5 (i : grid0.Coords) (k0_t2 : Fin (k0_t2_loop i).trips) : BitVec 32 :=
  let c0_i32_52 : BitVec 32 := 0#32
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_2 : BitVec 32 := 0#32
  let v18 : BitVec 1 := Scalar.cmpi .slt v14 c0_i32_2
  let v19 : BitVec 32 := Scalar.extui v18
  let v20 : BitVec 32 := Scalar.subi v17 v19
  let c512_i32 : BitVec 32 := 512#32
  let c0_i32_3 : BitVec 32 := 0#32
  let v21 : BitVec 1 := Scalar.cmpi .sgt c512_i32 c0_i32_3
  let v22 : BitVec 32 := Scalar.extui v21
  let c0_i32_4 : BitVec 32 := 0#32
  let v23 : BitVec 1 := Scalar.cmpi .slt c512_i32 c0_i32_4
  let v24 : BitVec 32 := Scalar.extui v23
  let v25 : BitVec 32 := Scalar.subi v22 v24
  let v26 : BitVec 1 := Scalar.cmpi .ne v20 v25
  let v27 : BitVec 32 := Scalar.remsi v14 c512_i32
  let c0_i32_5 : BitVec 32 := 0#32
  let v28 : BitVec 1 := Scalar.cmpi .ne v27 c0_i32_5
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v210 : BitVec 32 := Scalar.subi v31 c0_i32_52
  let c1_i32_53 : BitVec 32 := 1#32
  let v212 : BitVec 32 := Scalar.divsi v210 c1_i32_53
  let v213 : BitVec 32 := Scalar.muli v212 c1_i32_53
  let v214 : BitVec 32 := Scalar.addi c0_i32_52 v213
  let c1_i32_55 : BitVec 32 := 1#32
  let arg11 : BitVec 32 := Scf.iv v214 c1_i32_55 k0_t2
  let c512_i32_70 : BitVec 32 := 512#32
  let v243 : BitVec 32 := Scalar.muli arg11 c512_i32_70
  v243
def k0_off3 (i : grid0.Coords) (k0_t2 : Fin (k0_t2_loop i).trips) : Fin 2 → Nat :=
  let c0_i32_52 : BitVec 32 := 0#32
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_2 : BitVec 32 := 0#32
  let v18 : BitVec 1 := Scalar.cmpi .slt v14 c0_i32_2
  let v19 : BitVec 32 := Scalar.extui v18
  let v20 : BitVec 32 := Scalar.subi v17 v19
  let c512_i32 : BitVec 32 := 512#32
  let c0_i32_3 : BitVec 32 := 0#32
  let v21 : BitVec 1 := Scalar.cmpi .sgt c512_i32 c0_i32_3
  let v22 : BitVec 32 := Scalar.extui v21
  let c0_i32_4 : BitVec 32 := 0#32
  let v23 : BitVec 1 := Scalar.cmpi .slt c512_i32 c0_i32_4
  let v24 : BitVec 32 := Scalar.extui v23
  let v25 : BitVec 32 := Scalar.subi v22 v24
  let v26 : BitVec 1 := Scalar.cmpi .ne v20 v25
  let v27 : BitVec 32 := Scalar.remsi v14 c512_i32
  let c0_i32_5 : BitVec 32 := 0#32
  let v28 : BitVec 1 := Scalar.cmpi .ne v27 c0_i32_5
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v210 : BitVec 32 := Scalar.subi v31 c0_i32_52
  let c1_i32_53 : BitVec 32 := 1#32
  let v212 : BitVec 32 := Scalar.divsi v210 c1_i32_53
  let v213 : BitVec 32 := Scalar.muli v212 c1_i32_53
  let v214 : BitVec 32 := Scalar.addi c0_i32_52 v213
  let c1_i32_55 : BitVec 32 := 1#32
  let arg11 : BitVec 32 := Scf.iv v214 c1_i32_55 k0_t2
  let c512_i32_70 : BitVec 32 := 512#32
  let v243 : BitVec 32 := Scalar.muli arg11 c512_i32_70
  let v244 : BitVec 32 := v243
  let v245 : Index := Scalar.indexCast v244
  let c0_71 : Index := 0#32
  ![v245.toNat, 0]
def k0_mult6 (i : grid0.Coords) (k0_t2 : Fin (k0_t2_loop i).trips) : BitVec 32 :=
  let c0_i32_52 : BitVec 32 := 0#32
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_2 : BitVec 32 := 0#32
  let v18 : BitVec 1 := Scalar.cmpi .slt v14 c0_i32_2
  let v19 : BitVec 32 := Scalar.extui v18
  let v20 : BitVec 32 := Scalar.subi v17 v19
  let c512_i32 : BitVec 32 := 512#32
  let c0_i32_3 : BitVec 32 := 0#32
  let v21 : BitVec 1 := Scalar.cmpi .sgt c512_i32 c0_i32_3
  let v22 : BitVec 32 := Scalar.extui v21
  let c0_i32_4 : BitVec 32 := 0#32
  let v23 : BitVec 1 := Scalar.cmpi .slt c512_i32 c0_i32_4
  let v24 : BitVec 32 := Scalar.extui v23
  let v25 : BitVec 32 := Scalar.subi v22 v24
  let v26 : BitVec 1 := Scalar.cmpi .ne v20 v25
  let v27 : BitVec 32 := Scalar.remsi v14 c512_i32
  let c0_i32_5 : BitVec 32 := 0#32
  let v28 : BitVec 1 := Scalar.cmpi .ne v27 c0_i32_5
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v210 : BitVec 32 := Scalar.subi v31 c0_i32_52
  let c1_i32_53 : BitVec 32 := 1#32
  let v212 : BitVec 32 := Scalar.divsi v210 c1_i32_53
  let v213 : BitVec 32 := Scalar.muli v212 c1_i32_53
  let v214 : BitVec 32 := Scalar.addi c0_i32_52 v213
  let c1_i32_55 : BitVec 32 := 1#32
  let arg11 : BitVec 32 := Scf.iv v214 c1_i32_55 k0_t2
  let c512_i32_72 : BitVec 32 := 512#32
  let v247 : BitVec 32 := Scalar.muli arg11 c512_i32_72
  v247
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16896x1024 : Shape := ⟨2, ![16896, 1024]⟩
abbrev S1 : Shape := ⟨1, ![1]⟩
abbrev S128 : Shape := ⟨1, ![128]⟩
abbrev S16384x512 : Shape := ⟨2, ![16384, 512]⟩
abbrev S2x8192x4x2x64 : Shape := ⟨5, ![2, 8192, 4, 2, 64]⟩
abbrev S2x8192x4x128 : Shape := ⟨4, ![2, 8192, 4, 128]⟩
abbrev S2x4x2x8192x8192 : Shape := ⟨5, ![2, 4, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 71
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x1024, .bf16⟩
  | .hbm, ⟨3, _⟩ => ⟨S1, .f32⟩
  | .hbm, ⟨4, _⟩ => ⟨S128, .f32⟩
  | .hbm, ⟨5, _⟩ => ⟨S16384x512, .bf16⟩
  | .hbm, ⟨6, _⟩ => ⟨S16384x512, .f32⟩
  | .hbm, ⟨7, _⟩ => ⟨S16384x512, .bf16⟩
  | .hbm, ⟨8, _⟩ => ⟨S16384x512, .f32⟩
  | .hbm, ⟨9, _⟩ => ⟨S16384x512, .bf16⟩
  | .hbm, ⟨10, _⟩ => ⟨S16384x512, .f32⟩
  | .hbm, ⟨11, _⟩ => ⟨S2x8192x4x2x64, .f32⟩
  | .hbm, ⟨12, _⟩ => ⟨S2x8192x4x2x64, .f32⟩
  | .hbm, ⟨13, _⟩ => ⟨S2x8192x4x128, .f32⟩
  | .hbm, ⟨14, _⟩ => ⟨S2x4x2x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S2x4x2x8192x8192, .i1⟩
  | .hbm, ⟨24, _⟩ => ⟨S2x4x2x8192x8192, .f32⟩
  | .hbm, ⟨25, _⟩ => ⟨S2x4x2x8192x8192, .f32⟩
  | .hbm, ⟨26, _⟩ => ⟨S_, .f32⟩
  | .hbm, ⟨27, _⟩ => ⟨S2x4x2x8192, .f32⟩
  | .hbm, ⟨28, _⟩ => ⟨S_, .f32⟩
  | .hbm, ⟨29, _⟩ => ⟨S2x4x2x8192, .f32⟩
  | .hbm, ⟨30, _⟩ => ⟨S2x4x2x8192, .f32⟩
  | .hbm, ⟨31, _⟩ => ⟨S2x4x2x8192x1, .f32⟩
  | .hbm, ⟨32, _⟩ => ⟨S2x4x2x8192x8192, .f32⟩
  | .hbm, ⟨33, _⟩ => ⟨S2x4x2x8192x8192, .f32⟩
  | .hbm, ⟨34, _⟩ => ⟨S2x4x2x8192x8192, .f32⟩
  | .hbm, ⟨35, _⟩ => ⟨S_, .f32⟩
  | .hbm, ⟨36, _⟩ => ⟨S2x4x2x8192, .f32⟩
  | .hbm, ⟨37, _⟩ => ⟨S2x4x2x8192x1, .f32⟩
  | .hbm, ⟨38, _⟩ => ⟨S2x4x2x8192x8192, .f32⟩
  | .hbm, ⟨39, _⟩ => ⟨S2x4x2x8192x8192, .f32⟩
  | .hbm, ⟨40, _⟩ => ⟨S2x4x1x8192x8192, .f32⟩
  | .hbm, ⟨41, _⟩ => ⟨S2x4x8192x8192, .f32⟩
  | .hbm, ⟨42, _⟩ => ⟨S_, .f32⟩
  | .hbm, ⟨43, _⟩ => ⟨S2x4x1x8192x8192, .f32⟩
  | .hbm, ⟨44, _⟩ => ⟨S2x4x8192x8192, .f32⟩
  | .hbm, ⟨45, _⟩ => ⟨S2x4x8192x8192, .f32⟩
  | .hbm, ⟨46, _⟩ => ⟨S2x4x8192x8192, .f32⟩
  | .hbm, ⟨47, _⟩ => ⟨S2x4x8192x8192, .f32⟩
  | .hbm, ⟨48, _⟩ => ⟨S2x4x128x8192, .f32⟩
  | .hbm, ⟨49, _⟩ => ⟨S2x8192x4x128, .f32⟩
  | .hbm, ⟨50, _⟩ => ⟨S2x8192x4x128, .f32⟩
  | .hbm, ⟨51, _⟩ => ⟨S_, .f32⟩
  | .hbm, ⟨52, _⟩ => ⟨S2x8192x4, .f32⟩
  | .hbm, ⟨53, _⟩ => ⟨S2x8192x4x1, .f32⟩
  | .hbm, ⟨54, _⟩ => ⟨S_, .f32⟩
  | .hbm, ⟨55, _⟩ => ⟨S2x8192x4x1, .f32⟩
  | .hbm, ⟨56, _⟩ => ⟨S2x8192x4x1, .f32⟩
  | .hbm, ⟨57, _⟩ => ⟨S_, .f32⟩
  | .hbm, ⟨58, _⟩ => ⟨S2x8192x4x1, .f32⟩
  | .hbm, ⟨59, _⟩ => ⟨S2x8192x4x1, .f32⟩
  | .hbm, ⟨60, _⟩ => ⟨S2x8192x4x1, .f32⟩
  | .hbm, ⟨61, _⟩ => ⟨S2x8192x4x128, .f32⟩
  | .hbm, ⟨62, _⟩ => ⟨S2x8192x4x128, .f32⟩
  | .hbm, ⟨63, _⟩ => ⟨S1x1x1x128, .f32⟩
  | .hbm, ⟨64, _⟩ => ⟨S2x8192x4x128, .f32⟩
  | .hbm, ⟨65, _⟩ => ⟨S2x8192x4x128, .f32⟩
  | .hbm, ⟨66, _⟩ => ⟨S_, .f32⟩
  | .hbm, ⟨67, _⟩ => ⟨S2x8192x4x128, .f32⟩
  | .hbm, ⟨68, _⟩ => ⟨S2x8192x4x128, .f32⟩
  | .hbm, ⟨69, _⟩ => ⟨S16384x512, .f32⟩
  | .hbm, ⟨70, _⟩ => ⟨S16384x512, .bf16⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]

def κ : String → Option EReal := fun
  | "mask" => some ⊥
  | _ => none
-- ==== Ffn.lean ====
abbrev S16896x1024 : Shape := ⟨2, ![16896, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16896x1024 : Shape := ⟨2, ![16896, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x5632 : Shape := ⟨2, ![16896, 5632]⟩
abbrev S16896x2816 : Shape := ⟨2, ![16896, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16896x1024, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S16896x1, .f32⟩
  | .hbm, ⟨15, _⟩ => ⟨S16896x1024, .f32⟩
  | .hbm, ⟨16, _⟩ => ⟨S16896x1024, .f32⟩
  | .hbm, ⟨17, _⟩ => ⟨S1x1024, .f32⟩
  | .hbm, ⟨18, _⟩ => ⟨S16896x1024, .f32⟩
  | .hbm, ⟨19, _⟩ => ⟨S16896x1024, .f32⟩
  | .hbm, ⟨20, _⟩ => ⟨S16896x5632, .f32⟩
  | .hbm, ⟨21, _⟩ => ⟨S16896x2816, .f32⟩
  | .hbm, ⟨22, _⟩ => ⟨S16896x2816, .f32⟩
  | .hbm, ⟨23, _⟩ => ⟨S16896x2816, .f32⟩
  | .hbm, ⟨24, _⟩ => ⟨S16896x2816, .f32⟩
  | .hbm, ⟨25, _⟩ => ⟨S_, .f32⟩
  | .hbm, ⟨26, _⟩ => ⟨S16896x2816, .f32⟩
  | .hbm, ⟨27, _⟩ => ⟨S16896x2816, .f32⟩
  | .hbm, ⟨28, _⟩ => ⟨S_, .f32⟩
  | .hbm, ⟨29, _⟩ => ⟨S16896x2816, .f32⟩
  | .hbm, ⟨30, _⟩ => ⟨S16896x2816, .f32⟩
  | .hbm, ⟨31, _⟩ => ⟨S16896x2816, .f32⟩
  | .hbm, ⟨32, _⟩ => ⟨S16896x2816, .f32⟩
  | .hbm, ⟨33, _⟩ => ⟨S16896x1024, .f32⟩
  | .hbm, ⟨34, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== MemKv.lean ====
abbrev S2x256x1024 : Shape := ⟨3, ![2, 256, 1024]⟩
abbrev S1024 : Shape := ⟨1, ![1024]⟩
abbrev S1024x2048 : Shape := ⟨2, ![1024, 2048]⟩
abbrev S512x1024 : Shape := ⟨2, ![512, 1024]⟩
abbrev S1x1024 : Shape := ⟨2, ![1, 1024]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 4
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .f32⟩
  | .hbm, ⟨3, _⟩ => ⟨S512x1024, .f32⟩
  | .hbm, ⟨4, _⟩ => ⟨S1x1024, .f32⟩
  | .hbm, ⟨5, _⟩ => ⟨S1024x2048, .bf16⟩
  | .hbm, ⟨6, _⟩ => ⟨S512x2048, .f32⟩
  | .local _ .vmem, ⟨0, _⟩ => ⟨S512x1024, .f32⟩
  | .local _ .vmem, ⟨1, _⟩ => ⟨S1x1024, .f32⟩
  | .local _ .vmem, ⟨2, _⟩ => ⟨S1024x2048, .bf16⟩
  | .local _ .vmem, ⟨3, _⟩ => ⟨S512x2048, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== MemKvRefIdeal.lean ====
abbrev S2x256x1024 : Shape := ⟨3, ![2, 256, 1024]⟩
abbrev S1024 : Shape := ⟨1, ![1024]⟩
abbrev S1024x2048 : Shape := ⟨2, ![1024, 2048]⟩
abbrev S512x1024 : Shape := ⟨2, ![512, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x2048 : Shape := ⟨2, ![512, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .f32⟩
  | .hbm, ⟨3, _⟩ => ⟨S512x1024, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S512x2048, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutProj.lean ====
abbrev S16896x1024 : Shape := ⟨2, ![16896, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16896x1024, .bf16⟩
  | .hbm, ⟨1, _⟩ => ⟨S1024x1024, .f32⟩
  | .hbm, ⟨2, _⟩ => ⟨S16896x1024, .f32⟩
  | .hbm, ⟨3, _⟩ => ⟨S1024x1024, .bf16⟩
  | .hbm, ⟨4, _⟩ => ⟨S16896x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjRefIdeal.lean ====
abbrev S16896x1024 : Shape := ⟨2, ![16896, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S1024x1024, .f32⟩
  | .hbm, ⟨2, _⟩ => ⟨S16896x1024, .f32⟩
  | .hbm, ⟨3, _⟩ => ⟨S16896x1024, .f32⟩
  | .hbm, ⟨4, _⟩ => ⟨S16896x1024, .f32⟩
  | .hbm, ⟨5, _⟩ => ⟨S16896x1024, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MemQ.lean ====
abbrev S16896x1024 : Shape := ⟨2, ![16896, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S16896x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemQRefIdeal.lean ====
abbrev S16896x1024 : Shape := ⟨2, ![16896, 1024]⟩
abbrev S1024 : Shape := ⟨1, ![1024]⟩
abbrev S1024x1024 : Shape := ⟨2, ![1024, 1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x1024, .f32⟩
  | .hbm, ⟨3, _⟩ => ⟨S16896x1024, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x1024, .f32⟩
  | .hbm, ⟨15, _⟩ => ⟨S16896x1024, .f32⟩
  | .hbm, ⟨16, _⟩ => ⟨S1x1024, .f32⟩
  | .hbm, ⟨17, _⟩ => ⟨S16896x1024, .f32⟩
  | .hbm, ⟨18, _⟩ => ⟨S16896x1024, .f32⟩
  | .hbm, ⟨19, _⟩ => ⟨S16896x1024, .f32⟩
  | .hbm, ⟨20, _⟩ => ⟨S16896x1024, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MemAttn.lean ====
abbrev S16896x1024 : Shape := ⟨2, ![16896, 1024]⟩
abbrev S512x1024 : Shape := ⟨2, ![512, 1024]⟩
abbrev S16384x1024 : Shape := ⟨2, ![16384, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16896x1024, .bf16⟩
  | .hbm, ⟨1, _⟩ => ⟨S512x1024, .f32⟩
  | .hbm, ⟨2, _⟩ => ⟨S512x1024, .f32⟩
  | .hbm, ⟨3, _⟩ => ⟨S512x1024, .bf16⟩
  | .hbm, ⟨4, _⟩ => ⟨S512x1024, .bf16⟩
  | .hbm, ⟨5, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemAttnRefIdeal.lean ====
abbrev S16896x1024 : Shape := ⟨2, ![16896, 1024]⟩
abbrev S512x1024 : Shape := ⟨2, ![512, 1024]⟩
abbrev S16384x1024 : Shape := ⟨2, ![16384, 1024]⟩
abbrev S2x8192x4x256 : Shape := ⟨4, ![2, 8192, 4, 256]⟩
abbrev S2x256x4x256 : Shape := ⟨4, ![2, 256, 4, 256]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 30
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S512x1024, .f32⟩
  | .hbm, ⟨2, _⟩ => ⟨S512x1024, .f32⟩
  | .hbm, ⟨3, _⟩ => ⟨S16384x1024, .bf16⟩
  | .hbm, ⟨4, _⟩ => ⟨S16384x1024, .f32⟩
  | .hbm, ⟨5, _⟩ => ⟨S2x8192x4x256, .f32⟩
  | .hbm, ⟨6, _⟩ => ⟨S2x256x4x256, .f32⟩
  | .hbm, ⟨7, _⟩ => ⟨S2x256x4x256, .f32⟩
  | .hbm, ⟨8, _⟩ => ⟨S2x4x8192x256, .f32⟩
  | .hbm, ⟨9, _⟩ => ⟨S_, .f32⟩
  | .hbm, ⟨10, _⟩ => ⟨S2x4x8192x256, .f32⟩
  | .hbm, ⟨11, _⟩ => ⟨S2x4x8192x256, .f32⟩
  | .hbm, ⟨12, _⟩ => ⟨S_, .f32⟩
  | .hbm, ⟨13, _⟩ => ⟨S2x4x8192, .f32⟩
  | .hbm, ⟨14, _⟩ => ⟨S_, .f32⟩
  | .hbm, ⟨15, _⟩ => ⟨S2x4x8192, .f32⟩
  | .hbm, ⟨16, _⟩ => ⟨S2x4x8192, .f32⟩
  | .hbm, ⟨17, _⟩ => ⟨S2x4x8192x1, .f32⟩
  | .hbm, ⟨18, _⟩ => ⟨S2x4x8192x256, .f32⟩
  | .hbm, ⟨19, _⟩ => ⟨S2x4x8192x256, .f32⟩
  | .hbm, ⟨20, _⟩ => ⟨S2x4x8192x256, .f32⟩
  | .hbm, ⟨21, _⟩ => ⟨S_, .f32⟩
  | .hbm, ⟨22, _⟩ => ⟨S2x4x8192, .f32⟩
  | .hbm, ⟨23, _⟩ => ⟨S2x4x8192x1, .f32⟩
  | .hbm, ⟨24, _⟩ => ⟨S2x4x8192x256, .f32⟩
  | .hbm, ⟨25, _⟩ => ⟨S2x4x8192x256, .f32⟩
  | .hbm, ⟨26, _⟩ => ⟨S2x4x256x8192, .f32⟩
  | .hbm, ⟨27, _⟩ => ⟨S2x8192x4x256, .f32⟩
  | .hbm, ⟨28, _⟩ => ⟨S16384x1024, .f32⟩
  | .hbm, ⟨29, _⟩ => ⟨S16384x1024, .bf16⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Qkv.lean ====
abbrev S16896x1024 : Shape := ⟨2, ![16896, 1024]⟩
abbrev S1024 : Shape := ⟨1, ![1024]⟩
abbrev S1024x3072 : Shape := ⟨2, ![1024, 3072]⟩
abbrev S16896 : Shape := ⟨1, ![16896]⟩
abbrev S1x1024 : Shape := ⟨2, ![1, 1024]⟩
abbrev S8 : Shape := ⟨1, ![8]⟩
abbrev S_ : Shape := ⟨0, ![]⟩
abbrev S16896x1 : Shape := ⟨2, ![16896, 1]⟩
abbrev S1x8 : Shape := ⟨2, ![1, 8]⟩
abbrev S16896x8 : Shape := ⟨2, ![16896, 8]⟩
abbrev S16896x48 : Shape := ⟨2, ![16896, 48]⟩
abbrev S16896x64 : Shape := ⟨2, ![16896, 64]⟩
abbrev S1x16896x1x64 : Shape := ⟨4, ![1, 16896, 1, 64]⟩
abbrev S1x16896x2x64 : Shape := ⟨4, ![1, 16896, 2, 64]⟩
abbrev S16896x128 : Shape := ⟨2, ![16896, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩

abbrev nBuf : Space → Nat
  | .hbm => 47
  | .vmem => 20
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x3072, .f32⟩
  | .hbm, ⟨3, _⟩ => ⟨S16896, .i32⟩
  | .hbm, ⟨4, _⟩ => ⟨S1x1024, .f32⟩
  | .hbm, ⟨5, _⟩ => ⟨S1024x3072, .bf16⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S16896, .f32⟩
  | .hbm, ⟨15, _⟩ => ⟨S16896x1, .f32⟩
  | .hbm, ⟨16, _⟩ => ⟨S1x8, .f32⟩
  | .hbm, ⟨17, _⟩ => ⟨S16896x8, .f32⟩
  | .hbm, ⟨18, _⟩ => ⟨S16896x8, .f32⟩
  | .hbm, ⟨19, _⟩ => ⟨S16896x8, .f32⟩
  | .hbm, ⟨20, _⟩ => ⟨S16896x8, .f32⟩
  | .hbm, ⟨21, _⟩ => ⟨S16896x8, .f32⟩
  | .hbm, ⟨22, _⟩ => ⟨S_, .f32⟩
  | .hbm, ⟨23, _⟩ => ⟨S16896x48, .f32⟩
  | .hbm, ⟨24, _⟩ => ⟨S_, .f32⟩
  | .hbm, ⟨25, _⟩ => ⟨S16896x8, .f32⟩
  | .hbm, ⟨26, _⟩ => ⟨S_, .f32⟩
  | .hbm, ⟨27, _⟩ => ⟨S16896x48, .f32⟩
  | .hbm, ⟨28, _⟩ => ⟨S16896x48, .f32⟩
  | .hbm, ⟨29, _⟩ => ⟨S16896x64, .f32⟩
  | .hbm, ⟨30, _⟩ => ⟨S16896x64, .f32⟩
  | .hbm, ⟨31, _⟩ => ⟨S16896x8, .f32⟩
  | .hbm, ⟨32, _⟩ => ⟨S16896x64, .f32⟩
  | .hbm, ⟨33, _⟩ => ⟨S1x16896x1x64, .f32⟩
  | .hbm, ⟨34, _⟩ => ⟨S1x16896x2x64, .f32⟩
  | .hbm, ⟨35, _⟩ => ⟨S16896x128, .f32⟩
  | .hbm, ⟨36, _⟩ => ⟨S1x16896x1x64, .f32⟩
  | .hbm, ⟨37, _⟩ => ⟨S1x16896x2x64, .f32⟩
  | .hbm, ⟨38, _⟩ => ⟨S16896x128, .f32⟩
  | .hbm, ⟨39, _⟩ => ⟨S1x16896x1x64, .f32⟩
  | .hbm, ⟨40, _⟩ => ⟨S1x16896x2x64, .f32⟩
  | .hbm, ⟨41, _⟩ => ⟨S16896x128, .f32⟩
  | .hbm, ⟨42, _⟩ => ⟨S16896x1024, .bf16⟩
  | .hbm, ⟨43, _⟩ => ⟨S16896x1024, .f32⟩
  | .hbm, ⟨44, _⟩ => ⟨S16896x1024, .f32⟩
  | .hbm, ⟨45, _⟩ => ⟨S16896x1024, .bf16⟩
  | .hbm, ⟨46, _⟩ => ⟨S16896x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev main_v33_3 : Ref sig .tc := ⟨.hbm, 45, rfl⟩
abbrev main_v33_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvRefIdeal.lean ====
abbrev S16896x1024 : Shape := ⟨2, ![16896, 1024]⟩
abbrev S1024 : Shape := ⟨1, ![1024]⟩
abbrev S1024x3072 : Shape := ⟨2, ![1024, 3072]⟩
abbrev S16896 : Shape := ⟨1, ![16896]⟩
abbrev S_ : Shape := ⟨0, ![]⟩
abbrev S16896x1 : Shape := ⟨2, ![16896, 1]⟩
abbrev S1x1024 : Shape := ⟨2, ![1, 1024]⟩
abbrev S16896x3072 : Shape := ⟨2, ![16896, 3072]⟩
abbrev S16896x16x64 : Shape := ⟨3, ![16896, 16, 64]⟩
abbrev S8 : Shape := ⟨1, ![8]⟩
abbrev S1x8 : Shape := ⟨2, ![1, 8]⟩
abbrev S16896x8 : Shape := ⟨2, ![16896, 8]⟩
abbrev S16896x1x8 : Shape := ⟨3, ![16896, 1, 8]⟩
abbrev S16896x16x8 : Shape := ⟨3, ![16896, 16, 8]⟩
abbrev S16896x16x16 : Shape := ⟨3, ![16896, 16, 16]⟩
abbrev S16896x16x48 : Shape := ⟨3, ![16896, 16, 48]⟩

abbrev nBuf : Space → Nat
  | .hbm => 100
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x3072, .f32⟩
  | .hbm, ⟨3, _⟩ => ⟨S16896, .i32⟩
  | .hbm, ⟨4, _⟩ => ⟨S16896x1024, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S16896x1, .f32⟩
  | .hbm, ⟨15, _⟩ => ⟨S16896x1024, .f32⟩
  | .hbm, ⟨16, _⟩ => ⟨S16896x1024, .f32⟩
  | .hbm, ⟨17, _⟩ => ⟨S1x1024, .f32⟩
  | .hbm, ⟨18, _⟩ => ⟨S16896x1024, .f32⟩
  | .hbm, ⟨19, _⟩ => ⟨S16896x1024, .f32⟩
  | .hbm, ⟨20, _⟩ => ⟨S16896x3072, .f32⟩
  | .hbm, ⟨21, _⟩ => ⟨S16896x1024, .f32⟩
  | .hbm, ⟨22, _⟩ => ⟨S16896x1024, .f32⟩
  | .hbm, ⟨23, _⟩ => ⟨S16896x1024, .f32⟩
  | .hbm, ⟨24, _⟩ => ⟨S16896x16x64, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S16896, .f32⟩
  | .hbm, ⟨34, _⟩ => ⟨S16896x1, .f32⟩
  | .hbm, ⟨35, _⟩ => ⟨S1x8, .f32⟩
  | .hbm, ⟨36, _⟩ => ⟨S16896x8, .f32⟩
  | .hbm, ⟨37, _⟩ => ⟨S16896x8, .f32⟩
  | .hbm, ⟨38, _⟩ => ⟨S16896x8, .f32⟩
  | .hbm, ⟨39, _⟩ => ⟨S16896x8, .f32⟩
  | .hbm, ⟨40, _⟩ => ⟨S16896x1x8, .f32⟩
  | .hbm, ⟨41, _⟩ => ⟨S16896x8, .f32⟩
  | .hbm, ⟨42, _⟩ => ⟨S16896x1x8, .f32⟩
  | .hbm, ⟨43, _⟩ => ⟨S16896x16x8, .f32⟩
  | .hbm, ⟨44, _⟩ => ⟨S16896x16x8, .f32⟩
  | .hbm, ⟨45, _⟩ => ⟨S16896x16x8, .f32⟩
  | .hbm, ⟨46, _⟩ => ⟨S16896x16x8, .f32⟩
  | .hbm, ⟨47, _⟩ => ⟨S16896x16x8, .f32⟩
  | .hbm, ⟨48, _⟩ => ⟨S16896x16x8, .f32⟩
  | .hbm, ⟨49, _⟩ => ⟨S16896x16x8, .f32⟩
  | .hbm, ⟨50, _⟩ => ⟨S16896x16x8, .f32⟩
  | .hbm, ⟨51, _⟩ => ⟨S16896x16x8, .f32⟩
  | .hbm, ⟨52, _⟩ => ⟨S16896x16x8, .f32⟩
  | .hbm, ⟨53, _⟩ => ⟨S16896x16x8, .f32⟩
  | .hbm, ⟨54, _⟩ => ⟨S16896x16x8, .f32⟩
  | .hbm, ⟨55, _⟩ => ⟨S16896x16x16, .f32⟩
  | .hbm, ⟨56, _⟩ => ⟨S16896x16x48, .f32⟩
  | .hbm, ⟨57, _⟩ => ⟨S16896x16x64, .f32⟩
  | .hbm, ⟨58, _⟩ => ⟨S16896x1024, .f32⟩
  | .hbm, ⟨59, _⟩ => ⟨S_, .f32⟩
  | .hbm, ⟨60, _⟩ => ⟨S16896x1024, .f32⟩
  | .hbm, ⟨61, _⟩ => ⟨S16896x1024, .f32⟩
  | .hbm, ⟨62, _⟩ => ⟨S16896x16x64, .f32⟩
  | .hbm, ⟨63, _⟩ => ⟨S8, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S16896, .f32⟩
  | .hbm, ⟨72, _⟩ => ⟨S16896x1, .f32⟩
  | .hbm, ⟨73, _⟩ => ⟨S1x8, .f32⟩
  | .hbm, ⟨74, _⟩ => ⟨S16896x8, .f32⟩
  | .hbm, ⟨75, _⟩ => ⟨S16896x8, .f32⟩
  | .hbm, ⟨76, _⟩ => ⟨S16896x8, .f32⟩
  | .hbm, ⟨77, _⟩ => ⟨S16896x8, .f32⟩
  | .hbm, ⟨78, _⟩ => ⟨S16896x1x8, .f32⟩
  | .hbm, ⟨79, _⟩ => ⟨S16896x8, .f32⟩
  | .hbm, ⟨80, _⟩ => ⟨S16896x1x8, .f32⟩
  | .hbm, ⟨81, _⟩ => ⟨S16896x16x8, .f32⟩
  | .hbm, ⟨82, _⟩ => ⟨S16896x16x8, .f32⟩
  | .hbm, ⟨83, _⟩ => ⟨S16896x16x8, .f32⟩
  | .hbm, ⟨84, _⟩ => ⟨S16896x16x8, .f32⟩
  | .hbm, ⟨85, _⟩ => ⟨S16896x16x8, .f32⟩
  | .hbm, ⟨86, _⟩ => ⟨S16896x16x8, .f32⟩
  | .hbm, ⟨87, _⟩ => ⟨S16896x16x8, .f32⟩
  | .hbm, ⟨88, _⟩ => ⟨S16896x16x8, .f32⟩
  | .hbm, ⟨89, _⟩ => ⟨S16896x16x8, .f32⟩
  | .hbm, ⟨90, _⟩ => ⟨S16896x16x8, .f32⟩
  | .hbm, ⟨91, _⟩ => ⟨S16896x16x8, .f32⟩
  | .hbm, ⟨92, _⟩ => ⟨S16896x16x8, .f32⟩
  | .hbm, ⟨93, _⟩ => ⟨S16896x16x16, .f32⟩
  | .hbm, ⟨94, _⟩ => ⟨S16896x16x48, .f32⟩
  | .hbm, ⟨95, _⟩ => ⟨S16896x16x64, .f32⟩
  | .hbm, ⟨96, _⟩ => ⟨S16896x1024, .f32⟩
  | .hbm, ⟨97, _⟩ => ⟨S16896x1024, .bf16⟩
  | .hbm, ⟨98, _⟩ => ⟨S16896x1024, .bf16⟩
  | .hbm, ⟨99, _⟩ => ⟨S16896x1024, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_4 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_cst_6 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩

abbrev nD : Nat := 1
abbrev τ : Topo := Topo.v7x

variable {F : FTy → Type} [FloatOps F]
-- ==== QkvEven.lean ====
abbrev S16896x1024 : Shape := ⟨2, ![16896, 1024]⟩
abbrev S1024 : Shape := ⟨1, ![1024]⟩
abbrev S1024x3072 : Shape := ⟨2, ![1024, 3072]⟩
abbrev S16896 : Shape := ⟨1, ![16896]⟩
abbrev S512 : Shape := ⟨1, ![512]⟩
abbrev S_ : Shape := ⟨0, ![]⟩
abbrev S3072 : Shape := ⟨1, ![3072]⟩
abbrev S1x1024 : Shape := ⟨2, ![1, 1024]⟩
abbrev S3072x1 : Shape := ⟨2, ![3072, 1]⟩
abbrev S8 : Shape := ⟨1, ![8]⟩
abbrev S16896x1 : Shape := ⟨2, ![16896, 1]⟩
abbrev S1x8 : Shape := ⟨2, ![1, 8]⟩
abbrev S16896x8 : Shape := ⟨2, ![16896, 8]⟩
abbrev S16896x48 : Shape := ⟨2, ![16896, 48]⟩
abbrev S16896x64 : Shape := ⟨2, ![16896, 64]⟩
abbrev S1x16896x1x64 : Shape := ⟨4, ![1, 16896, 1, 64]⟩
abbrev S1x16896x2x64 : Shape := ⟨4, ![1, 16896, 2, 64]⟩
abbrev S16896x128 : Shape := ⟨2, ![16896, 128]⟩
abbrev S512x1024 : Shape := ⟨2, ![512, 1024]⟩
abbrev S512x128 : Shape := ⟨2, ![512, 128]⟩
abbrev S512x1 : Shape := ⟨2, ![512, 1]⟩
abbrev S1024x1024 : Shape := ⟨2, ![1024, 1024]⟩

abbrev nBuf : Space → Nat
  | .hbm => 81
  | .vmem => 20
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x3072, .f32⟩
  | .hbm, ⟨3, _⟩ => ⟨S16896, .i32⟩
  | .hbm, ⟨4, _⟩ => ⟨S512, .i32⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S3072, .i32⟩
  | .hbm, ⟨29, _⟩ => ⟨S1x1024, .f32⟩
  | .hbm, ⟨30, _⟩ => ⟨S_, .i32⟩
  | .hbm, ⟨31, _⟩ => ⟨S3072, .i32⟩
  | .hbm, ⟨32, _⟩ => ⟨S3072, .i1⟩
  | .hbm, ⟨33, _⟩ => ⟨S_, .i32⟩
  | .hbm, ⟨34, _⟩ => ⟨S3072, .i32⟩
  | .hbm, ⟨35, _⟩ => ⟨S3072, .i32⟩
  | .hbm, ⟨36, _⟩ => ⟨S3072, .i32⟩
  | .hbm, ⟨37, _⟩ => ⟨S3072x1, .i32⟩
  | .hbm, ⟨38, _⟩ => ⟨S1024x3072, .f32⟩
  | .hbm, ⟨39, _⟩ => ⟨S1024x3072, .bf16⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S16896, .f32⟩
  | .hbm, ⟨49, _⟩ => ⟨S16896x1, .f32⟩
  | .hbm, ⟨50, _⟩ => ⟨S1x8, .f32⟩
  | .hbm, ⟨51, _⟩ => ⟨S16896x8, .f32⟩
  | .hbm, ⟨52, _⟩ => ⟨S16896x8, .f32⟩
  | .hbm, ⟨53, _⟩ => ⟨S16896x8, .f32⟩
  | .hbm, ⟨54, _⟩ => ⟨S16896x8, .f32⟩
  | .hbm, ⟨55, _⟩ => ⟨S16896x8, .f32⟩
  | .hbm, ⟨56, _⟩ => ⟨S_, .f32⟩
  | .hbm, ⟨57, _⟩ => ⟨S16896x48, .f32⟩
  | .hbm, ⟨58, _⟩ => ⟨S_, .f32⟩
  | .hbm, ⟨59, _⟩ => ⟨S16896x8, .f32⟩
  | .hbm, ⟨60, _⟩ => ⟨S_, .f32⟩
  | .hbm, ⟨61, _⟩ => ⟨S16896x48, .f32⟩
  | .hbm, ⟨62, _⟩ => ⟨S16896x48, .f32⟩
  | .hbm, ⟨63, _⟩ => ⟨S16896x64, .f32⟩
  | .hbm, ⟨64, _⟩ => ⟨S16896x64, .f32⟩
  | .hbm, ⟨65, _⟩ => ⟨S16896x8, .f32⟩
  | .hbm, ⟨66, _⟩ => ⟨S16896x64, .f32⟩
  | .hbm, ⟨67, _⟩ => ⟨S1x16896x1x64, .f32⟩
  | .hbm, ⟨68, _⟩ => ⟨S1x16896x2x64, .f32⟩
  | .hbm, ⟨69, _⟩ => ⟨S16896x128, .f32⟩
  | .hbm, ⟨70, _⟩ => ⟨S1x16896x1x64, .f32⟩
  | .hbm, ⟨71, _⟩ => ⟨S1x16896x2x64, .f32⟩
  | .hbm, ⟨72, _⟩ => ⟨S16896x128, .f32⟩
  | .hbm, ⟨73, _⟩ => ⟨S1x16896x1x64, .f32⟩
  | .hbm, ⟨74, _⟩ => ⟨S1x16896x2x64, .f32⟩
  | .hbm, ⟨75, _⟩ => ⟨S16896x128, .f32⟩
  | .hbm, ⟨76, _⟩ => ⟨S16896x1024, .bf16⟩
  | .hbm, ⟨77, _⟩ => ⟨S16896x1024, .f32⟩
  | .hbm, ⟨78, _⟩ => ⟨S16896x1024, .f32⟩
  | .hbm, ⟨79, _⟩ => ⟨S16896x1024, .bf16⟩
  | .hbm, ⟨80, _⟩ => ⟨S16896x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59_0 : Ref sig .tc := ⟨.hbm, 76, rfl⟩
abbrev main_v59_1 : Ref sig .tc := ⟨.hbm, 77, rfl⟩
abbrev main_v59_2 : Ref sig .tc := ⟨.hbm, 78, rfl⟩
abbrev main_v59_3 : Ref sig .tc := ⟨.hbm, 79, rfl⟩
abbrev main_v59_4 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvEvenRefIdeal.lean ====
abbrev S16896x1024 : Shape := ⟨2, ![16896, 1024]⟩
abbrev S1024 : Shape := ⟨1, ![1024]⟩
abbrev S1024x3072 : Shape := ⟨2, ![1024, 3072]⟩
abbrev S16896 : Shape := ⟨1, ![16896]⟩
abbrev S_ : Shape := ⟨0, ![]⟩
abbrev S16896x1 : Shape := ⟨2, ![16896, 1]⟩
abbrev S1x1024 : Shape := ⟨2, ![1, 1024]⟩
abbrev S16896x3072 : Shape := ⟨2, ![16896, 3072]⟩
abbrev S16896x512 : Shape := ⟨2, ![16896, 512]⟩
abbrev S16896x8x64 : Shape := ⟨3, ![16896, 8, 64]⟩
abbrev S8 : Shape := ⟨1, ![8]⟩
abbrev S1x8 : Shape := ⟨2, ![1, 8]⟩
abbrev S16896x8 : Shape := ⟨2, ![16896, 8]⟩
abbrev S16896x1x8 : Shape := ⟨3, ![16896, 1, 8]⟩
abbrev S16896x8x8 : Shape := ⟨3, ![16896, 8, 8]⟩
abbrev S16896x8x16 : Shape := ⟨3, ![16896, 8, 16]⟩
abbrev S16896x8x48 : Shape := ⟨3, ![16896, 8, 48]⟩
abbrev S16896x16x64 : Shape := ⟨3, ![16896, 16, 64]⟩

abbrev nBuf : Space → Nat
  | .hbm => 111
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x3072, .f32⟩
  | .hbm, ⟨3, _⟩ => ⟨S16896, .i32⟩
  | .hbm, ⟨4, _⟩ => ⟨S16896x1024, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S16896x1, .f32⟩
  | .hbm, ⟨15, _⟩ => ⟨S16896x1024, .f32⟩
  | .hbm, ⟨16, _⟩ => ⟨S16896x1024, .f32⟩
  | .hbm, ⟨17, _⟩ => ⟨S1x1024, .f32⟩
  | .hbm, ⟨18, _⟩ => ⟨S16896x1024, .f32⟩
  | .hbm, ⟨19, _⟩ => ⟨S16896x1024, .f32⟩
  | .hbm, ⟨20, _⟩ => ⟨S16896x3072, .f32⟩
  | .hbm, ⟨21, _⟩ => ⟨S16896x512, .f32⟩
  | .hbm, ⟨22, _⟩ => ⟨S16896x512, .f32⟩
  | .hbm, ⟨23, _⟩ => ⟨S16896x512, .f32⟩
  | .hbm, ⟨24, _⟩ => ⟨S16896x512, .f32⟩
  | .hbm, ⟨25, _⟩ => ⟨S16896x512, .f32⟩
  | .hbm, ⟨26, _⟩ => ⟨S16896x512, .f32⟩
  | .hbm, ⟨27, _⟩ => ⟨S16896x8x64, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S16896, .f32⟩
  | .hbm, ⟨37, _⟩ => ⟨S16896x1, .f32⟩
  | .hbm, ⟨38, _⟩ => ⟨S1x8, .f32⟩
  | .hbm, ⟨39, _⟩ => ⟨S16896x8, .f32⟩
  | .hbm, ⟨40, _⟩ => ⟨S16896x8, .f32⟩
  | .hbm, ⟨41, _⟩ => ⟨S16896x8, .f32⟩
  | .hbm, ⟨42, _⟩ => ⟨S16896x8, .f32⟩
  | .hbm, ⟨43, _⟩ => ⟨S16896x1x8, .f32⟩
  | .hbm, ⟨44, _⟩ => ⟨S16896x8, .f32⟩
  | .hbm, ⟨45, _⟩ => ⟨S16896x1x8, .f32⟩
  | .hbm, ⟨46, _⟩ => ⟨S16896x8x8, .f32⟩
  | .hbm, ⟨47, _⟩ => ⟨S16896x8x8, .f32⟩
  | .hbm, ⟨48, _⟩ => ⟨S16896x8x8, .f32⟩
  | .hbm, ⟨49, _⟩ => ⟨S16896x8x8, .f32⟩
  | .hbm, ⟨50, _⟩ => ⟨S16896x8x8, .f32⟩
  | .hbm, ⟨51, _⟩ => ⟨S16896x8x8, .f32⟩
  | .hbm, ⟨52, _⟩ => ⟨S16896x8x8, .f32⟩
  | .hbm, ⟨53, _⟩ => ⟨S16896x8x8, .f32⟩
  | .hbm, ⟨54, _⟩ => ⟨S16896x8x8, .f32⟩
  | .hbm, ⟨55, _⟩ => ⟨S16896x8x8, .f32⟩
  | .hbm, ⟨56, _⟩ => ⟨S16896x8x8, .f32⟩
  | .hbm, ⟨57, _⟩ => ⟨S16896x8x8, .f32⟩
  | .hbm, ⟨58, _⟩ => ⟨S16896x8x16, .f32⟩
  | .hbm, ⟨59, _⟩ => ⟨S16896x8x48, .f32⟩
  | .hbm, ⟨60, _⟩ => ⟨S16896x8x64, .f32⟩
  | .hbm, ⟨61, _⟩ => ⟨S16896x8x64, .f32⟩
  | .hbm, ⟨62, _⟩ => ⟨S16896x16x64, .f32⟩
  | .hbm, ⟨63, _⟩ => ⟨S16896x1024, .f32⟩
  | .hbm, ⟨64, _⟩ => ⟨S_, .f32⟩
  | .hbm, ⟨65, _⟩ => ⟨S16896x1024, .f32⟩
  | .hbm, ⟨66, _⟩ => ⟨S16896x1024, .f32⟩
  | .hbm, ⟨67, _⟩ => ⟨S16896x8x64, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S16896, .f32⟩
  | .hbm, ⟨77, _⟩ => ⟨S16896x1, .f32⟩
  | .hbm, ⟨78, _⟩ => ⟨S1x8, .f32⟩
  | .hbm, ⟨79, _⟩ => ⟨S16896x8, .f32⟩
  | .hbm, ⟨80, _⟩ => ⟨S16896x8, .f32⟩
  | .hbm, ⟨81, _⟩ => ⟨S16896x8, .f32⟩
  | .hbm, ⟨82, _⟩ => ⟨S16896x8, .f32⟩
  | .hbm, ⟨83, _⟩ => ⟨S16896x1x8, .f32⟩
  | .hbm, ⟨84, _⟩ => ⟨S16896x8, .f32⟩
  | .hbm, ⟨85, _⟩ => ⟨S16896x1x8, .f32⟩
  | .hbm, ⟨86, _⟩ => ⟨S16896x8x8, .f32⟩
  | .hbm, ⟨87, _⟩ => ⟨S16896x8x8, .f32⟩
  | .hbm, ⟨88, _⟩ => ⟨S16896x8x8, .f32⟩
  | .hbm, ⟨89, _⟩ => ⟨S16896x8x8, .f32⟩
  | .hbm, ⟨90, _⟩ => ⟨S16896x8x8, .f32⟩
  | .hbm, ⟨91, _⟩ => ⟨S16896x8x8, .f32⟩
  | .hbm, ⟨92, _⟩ => ⟨S16896x8x8, .f32⟩
  | .hbm, ⟨93, _⟩ => ⟨S16896x8x8, .f32⟩
  | .hbm, ⟨94, _⟩ => ⟨S16896x8x8, .f32⟩
  | .hbm, ⟨95, _⟩ => ⟨S16896x8x8, .f32⟩
  | .hbm, ⟨96, _⟩ => ⟨S16896x8x8, .f32⟩
  | .hbm, ⟨97, _⟩ => ⟨S16896x8x8, .f32⟩
  | .hbm, ⟨98, _⟩ => ⟨S16896x8x16, .f32⟩
  | .hbm, ⟨99, _⟩ => ⟨S16896x8x48, .f32⟩
  | .hbm, ⟨100, _⟩ => ⟨S16896x8x64, .f32⟩
  | .hbm, ⟨101, _⟩ => ⟨S16896x8x64, .f32⟩
  | .hbm, ⟨102, _⟩ => ⟨S16896x16x64, .f32⟩
  | .hbm, ⟨103, _⟩ => ⟨S16896x1024, .f32⟩
  | .hbm, ⟨104, _⟩ => ⟨S16896x8x64, .f32⟩
  | .hbm, ⟨105, _⟩ => ⟨S16896x8x64, .f32⟩
  | .hbm, ⟨106, _⟩ => ⟨S16896x16x64, .f32⟩
  | .hbm, ⟨107, _⟩ => ⟨S16896x1024, .f32⟩
  | .hbm, ⟨108, _⟩ => ⟨S16896x1024, .bf16⟩
  | .hbm, ⟨109, _⟩ => ⟨S16896x1024, .bf16⟩
  | .hbm, ⟨110, _⟩ => ⟨S16896x1024, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_v61 : Ref sig .tc := ⟨.hbm, 72, rfl⟩
abbrev main_cst_6 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩

abbrev nD : Nat := 1
abbrev τ : Topo := Topo.v7x

variable {F : FTy → Type} [FloatOps F]
-- ==== FinalNorm.lean ====
abbrev S16896x1024 : Shape := ⟨2, ![16896, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1x1024, .f32⟩
  | .hbm, ⟨3, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16896x1024 : Shape := ⟨2, ![16896, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S16896x1024, .f32⟩
  | .hbm, ⟨3, _⟩ => ⟨S_, .f32⟩
  | .hbm, ⟨4, _⟩ => ⟨S16896, .f32⟩
  | .hbm, ⟨5, _⟩ => ⟨S16896x1, .f32⟩
  | .hbm, ⟨6, _⟩ => ⟨S_, .f32⟩
  | .hbm, ⟨7, _⟩ => ⟨S16896x1, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S16896x1, .f32⟩
  | .hbm, ⟨13, _⟩ => ⟨S16896x1024, .f32⟩
  | .hbm, ⟨14, _⟩ => ⟨S16896x1024, .f32⟩
  | .hbm, ⟨15, _⟩ => ⟨S1x1024, .f32⟩
  | .hbm, ⟨16, _⟩ => ⟨S16896x1024, .f32⟩
  | .hbm, ⟨17, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.OutProj.lean ====
module

public import proofs.«01_k».proof.Proof.Gen.OutProjIdeal.Value
public import proofs.«01_k».proof.Proof.Gen.OutProjRefIdeal.Read
public import Idealize.ShloMosaic.Lib.Pipeline.ValueKit

/-! The output projection with its residual: the array after the run is the reference's sum. -/

@[expose] public section

set_option maxRecDepth 16384

noncomputable section

namespace Cert.OutProjIdeal.Whole

open Idealize.ShloMosaic Idealize.ShloMosaic.TcCoe Idealize.SL.Sem
open Idealize.ShloMosaic.Pipeline (Dat)
open Cert.OutProjIdeal Cert.OutProjIdeal.Gen

variable (m : (ℓ : Loc nD τ sig) → Buf (Elt Ideal) ℓ)

/-- The reference's composed term: the residual plus the widened product. -/
abbrev refTerm (a : FVec Ideal S16896x1024 .bf16) (w : FVec Ideal S1024x1024 .f32)
    (x : FVec Ideal S16896x1024 .f32) : FVec Ideal S16896x1024 .f32 :=
  addf x (Host.dotGeneral Cert.OutProjRefIdeal.dot_S16896x1024_S1024x1024_S16896x1024_1_0_0_1_n_n none
    (extf .f32 a Cert.OutProjRefIdeal.Gen.bitsLt_bf16_f32) w)

/-- Where each window's block sits, for every grid point. -/
theorem places : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- What a point stores at a block index is the reference's value where that index sits in the array. -/
theorem stored (c : Dev nD) (t : Fin cfg0.N) (y) :
    k0_pay1 (iblk m c 2 t) (iblk m c 0 t) (iblk m c 1 t) y
      = refTerm (m ((c : Thread nD τ).loc main_arg0)) (m ((c : Thread nD τ).loc main_arg1))
          (m ((c : Thread nD τ).loc main_arg2)) (((cfg0.win 3).blk t).view.emb y) := by
  pointwise [k0_pay1, refTerm]
  blk_point [iblk, V, places t]

/-- The result array after the run is the reference's term of the argument arrays. -/
theorem result (c : Dev nD) : (dats m 0 c).arrAt 3 (cfgs 0).N
    = refTerm (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact stored m c t y

end Cert.OutProjIdeal.Whole

end
-- ==== Proof.MemQ.lean ====
module

public import proofs.«01_k».proof.Proof.Gen.MemQIdeal.Value
public import proofs.«01_k».proof.Proof.Gen.MemQRefIdeal.Read
public import Idealize.ShloMosaic.Lib.Pipeline.ValueKit

/-! The query projection onto the memory: a product of normalized rows. -/

@[expose] public section

set_option maxRecDepth 16384

noncomputable section

namespace Cert.MemQIdeal.Whole

open Idealize.ShloMosaic Idealize.ShloMosaic.TcCoe Idealize.SL.Sem
open Idealize.ShloMosaic.Pipeline (Dat)
open Cert.MemQIdeal Cert.MemQIdeal.Gen

variable (m : (ℓ : Loc nD τ sig) → Buf (Elt Ideal) ℓ)

/-- The reference's composed term: the normalized rows times the weights. -/
abbrev refTerm (x : FVec Ideal S16896x1024 .f32) (g : FVec Ideal S1024 .f32)
    (w : FVec Ideal S1024x1024 .f32) : FVec Ideal S16896x1024 .bf16 :=
  Cert.MemQRefIdeal.Read.val_main_v14 (F := Ideal) x g w

/-- Where each window's block sits, for every grid point. -/
theorem places : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- What a point stores at a block index is the reference's value where that index sits in the array. -/
theorem stored (c : Dev nD) (t : Fin cfg0.N) (y) :
    k0_pay1 (iblk m c 0 t) (iblk m c 1 t) (iblk m c 2 t) y
      = refTerm (m ((c : Thread nD τ).loc main_arg0)) (m ((c : Thread nD τ).loc main_arg1))
          (m ((c : Thread nD τ).loc main_arg2)) (((cfg0.win 3).blk t).view.emb y) := by
  pointwise [k0_pay1, refTerm, Cert.MemQRefIdeal.Read.val_main_v14, Cert.MemQRefIdeal.Read.val_main_v13, Cert.MemQRefIdeal.Read.val_main_v12, Cert.MemQRefIdeal.Read.val_main_v11, Cert.MemQRefIdeal.Read.val_main_v10, Cert.MemQRefIdeal.Read.val_main_v9, Cert.MemQRefIdeal.Read.val_main_v8, Cert.MemQRefIdeal.Read.val_main_v7, Cert.MemQRefIdeal.Read.val_main_v6, Cert.MemQRefIdeal.Read.val_main_v5, Cert.MemQRefIdeal.Read.val_main_cst_1, Cert.MemQRefIdeal.Read.val_main_v4, Cert.MemQRefIdeal.Read.val_main_v3, Cert.MemQRefIdeal.Read.val_main_cst_0, Cert.MemQRefIdeal.Read.val_main_v2, Cert.MemQRefIdeal.Read.val_main_v1, Cert.MemQRefIdeal.Read.val_main_cst, Cert.MemQRefIdeal.Read.val_main_v0]
  blk_point [iblk, V, places t]

/-- The result array after the run is the reference's term of the argument arrays. -/
theorem result (c : Dev nD) : (dats m 0 c).arrAt 3 (cfgs 0).N
    = refTerm (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact stored m c t y

end Cert.MemQIdeal.Whole

end
-- ==== Proof.MemKv.lean ====
module

public import proofs.«01_k».proof.Proof.Gen.MemKvIdeal.Value
public import proofs.«01_k».proof.Proof.Gen.MemKvRefIdeal.Read
public import Idealize.ShloMosaic.Lib.Pipeline.ValueKit

/-! The memory's keys and values: a product of normalized rows. -/

@[expose] public section

set_option maxRecDepth 16384

noncomputable section

namespace Cert.MemKvIdeal.Whole

open Idealize.ShloMosaic Idealize.ShloMosaic.TcCoe Idealize.SL.Sem
open Idealize.ShloMosaic.Pipeline (Dat)
open Cert.MemKvIdeal Cert.MemKvIdeal.Gen

variable (m : (ℓ : Loc nD τ sig) → Buf (Elt Ideal) ℓ)

/-- The reference's composed term: the normalized rows times the weights. -/
abbrev refTerm (x : FVec Ideal S2x256x1024 .f32) (g : FVec Ideal S1024 .f32)
    (w : FVec Ideal S1024x2048 .f32) : FVec Ideal S512x2048 .f32 :=
  Cert.MemKvRefIdeal.Read.val_main_v14 (F := Ideal) x g w

/-- Where each window's block sits, for every grid point. -/
theorem places : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- What a point stores at a block index is the reference's value where that index sits in the array. -/
theorem stored (c : Dev nD) (t : Fin cfg0.N) (y) :
    k0_pay1 (iblk m c 0 t) (iblk m c 1 t) (iblk m c 2 t) y
      = refTerm (m ((c : Thread nD τ).loc main_arg0)) (m ((c : Thread nD τ).loc main_arg1))
          (m ((c : Thread nD τ).loc main_arg2)) (((cfg0.win 3).blk t).view.emb y) := by
  pointwise [k0_pay1, refTerm, Cert.MemKvRefIdeal.Read.val_main_v14, Cert.MemKvRefIdeal.Read.val_main_v13, Cert.MemKvRefIdeal.Read.val_main_v12, Cert.MemKvRefIdeal.Read.val_main_v11, Cert.MemKvRefIdeal.Read.val_main_v10, Cert.MemKvRefIdeal.Read.val_main_v9, Cert.MemKvRefIdeal.Read.val_main_v8, Cert.MemKvRefIdeal.Read.val_main_v7, Cert.MemKvRefIdeal.Read.val_main_v6, Cert.MemKvRefIdeal.Read.val_main_v5, Cert.MemKvRefIdeal.Read.val_main_cst_1, Cert.MemKvRefIdeal.Read.val_main_v4, Cert.MemKvRefIdeal.Read.val_main_v3, Cert.MemKvRefIdeal.Read.val_main_cst_0, Cert.MemKvRefIdeal.Read.val_main_v2, Cert.MemKvRefIdeal.Read.val_main_v1, Cert.MemKvRefIdeal.Read.val_main_cst]
  blk_point [iblk, V, places t]

/-- The result array after the run is the reference's term of the argument arrays. -/
theorem result (c : Dev nD) : (dats m 0 c).arrAt 3 (cfgs 0).N
    = refTerm (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact stored m c t y

end Cert.MemKvIdeal.Whole

end
-- ==== Proof.Ffn.lean ====
module

public import proofs.«01_k».proof.Proof.Gen.FfnIdeal.Value
public import proofs.«01_k».proof.Proof.Gen.FfnRefIdeal.Read
public import Idealize.ShloMosaic.Lib.Pipeline.ValueKit

/-! The gated channel mixer: eleven chunks of hidden columns, added one after another onto the residual. -/

@[expose] public section

set_option maxRecDepth 16384

noncomputable section

namespace Cert.FfnIdeal.Whole

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

/-- One chunk of 256 hidden columns added onto a running sum, as the body computes it. -/
def addChunk (h : FVec Ideal S512x1024 .bf16) (acc : FVec Ideal S512x1024 .f32) (wg wu : FVec Ideal S1024x256 .bf16)
    (wd : FVec Ideal S256x1024 .bf16) : FVec Ideal S512x1024 .f32 :=
  let g := matmul dot_S512x1024_S1024x256_S512x256_1_0_0_1_n_n none h
    (shapeCast S1024x256 wg shapeCasts_S1024x256_S1024x256) (constant (F := Ideal) S512x256 .f32 0x00000000#32)
  let u := matmul dot_S512x1024_S1024x256_S512x256_1_0_0_1_n_n none h
    (shapeCast S1024x256 wu shapeCasts_S1024x256_S1024x256) (constant (F := Ideal) S512x256 .f32 0x00000000#32)
  let d := addf (broadcast S512x256 (Scalar.ofBits (F := Ideal) .f32 0x3F800000#32))
    (exp (subf (broadcast S512x256 (Scalar.ofBits (F := Ideal) .f32 0x00000000#32)) g))
  addf acc (matmul dot_S512x256_S256x1024_S512x1024_1_0_0_1_n_n none (truncf .bf16 (mulf (divf g d) u) bitsLt_bf16_f32)
    (shapeCast S256x1024 wd shapeCasts_S256x1024_S256x1024) (constant (F := Ideal) S512x1024 .f32 0x00000000#32))

/-- A gate divided by one plus the exponential of its negation is the gate times its logistic weight. -/
theorem gate_quotient (g : EReal) :
    Ideal.div g (1 + Ideal.exp (0 - g)) = g * Ideal.div 1 (1 + Ideal.exp (-g)) := by
  have hpos : (1 + Ideal.exp (-g) : EReal) ≠ 0 := by
    have h0 : (0 : EReal) ≤ Ideal.exp (-g) := by
      generalize -g = z
      induction z using EReal.rec with
      | bot => exact le_refl _
      | top => exact le_top
      | coe r => exact EReal.coe_nonneg.mpr (Real.exp_pos r).le
    have h1 : (0 : EReal) < 1 + Ideal.exp (-g) :=
      lt_of_lt_of_le zero_lt_one (le_add_of_nonneg_right h0)
    exact h1.ne'
  rw [zero_sub]
  simp only [Ideal.div, if_neg hpos, one_mul]

/-- One hidden column's contribution to an output entry. -/
def column (h : FVec Ideal S512x1024 .bf16) (wg wu : FVec Ideal S1024x2816 .bf16) (wd : FVec Ideal S2816x1024 .bf16)
    (r : Fin 512) (e : Fin 1024) (k : Fin 2816) : EReal :=
  (Ideal.div (∑ j : Fin 1024, h (ix2 r j) * wg (ix2 j k))
      (1 + Ideal.exp (0 - ∑ j : Fin 1024, h (ix2 r j) * wg (ix2 j k)))
    * ∑ j : Fin 1024, h (ix2 r j) * wu (ix2 j k)) * wd (ix2 k e)

/-- A chunk whose weights are 256 columns (and 256 rows) of the whole ones adds the contributions of those columns. -/
theorem addChunk_at (h : FVec Ideal S512x1024 .bf16) (acc : FVec Ideal S512x1024 .f32)
    (wg wu : FVec Ideal S1024x2816 .bf16) (wd : FVec Ideal S2816x1024 .bf16)
    (cg cu : FVec Ideal S1024x256 .bf16) (cd : FVec Ideal S256x1024 .bf16) (o : Nat) (hk : o + 256 ≤ 2816)
    (hg : ∀ (j : Fin 1024) (k : Fin 256), cg (ix2 j k) = wg (ix2 j ⟨o + k.val, by omega⟩))
    (hu : ∀ (j : Fin 1024) (k : Fin 256), cu (ix2 j k) = wu (ix2 j ⟨o + k.val, by omega⟩))
    (hd : ∀ (k : Fin 256) (j : Fin 1024), cd (ix2 k j) = wd (ix2 ⟨o + k.val, by omega⟩ j))
    (y : S512x1024.Idx) :
    addChunk h acc cg cu cd y
      = acc y + ∑ k : Fin 256, column h wg wu wd (y 0) (y 1) ⟨o + k.val, by omega⟩ := by
  pointwise [addChunk]
  refine congrArg (acc y + ·) (Finset.sum_congr rfl fun k _ => ?_)
  unfold column
  exact congrArg₂ (· * ·) (congrArg₂ (· * ·)
    (congrArg (fun z => Ideal.div z (1 + Ideal.exp (0 - z))) (Finset.sum_congr rfl fun j _ => congrArg (_ * ·) (hg j k)))
    (Finset.sum_congr rfl fun j _ => congrArg (_ * ·) (hu j k))) (hd k (y 1))

/-- Columns read from an offset. -/
theorem cols_at (w : Vec Ideal S1024x2816 .bf16) (o : Nat) (hk : o + 256 ≤ 2816)
    (ho : ∀ a, (![0, o] : Fin 2 → Nat) a + S1024x256.size a ≤ S1024x2816.size a) (j : Fin 1024) (k : Fin 256) :
    View.ld w (Rect.unit (s := S1024x2816) ![0, o] S1024x256.size ho) (ix2 j k) = w (ix2 j ⟨o + k.val, by omega⟩) := by
  rw [View.ld_unit]
  refine congrArg w (funext fun a => Fin.ext ?_)
  fin_cases a
  · exact Nat.zero_add _
  · rfl

/-- Rows read from an offset. -/
theorem rows_at (w : Vec Ideal S2816x1024 .bf16) (o : Nat) (hk : o + 256 ≤ 2816)
    (ho : ∀ a, (![o, 0] : Fin 2 → Nat) a + S256x1024.size a ≤ S2816x1024.size a) (k : Fin 256) (j : Fin 1024) :
    View.ld w (Rect.unit (s := S2816x1024) ![o, 0] S256x1024.size ho) (ix2 k j) = w (ix2 ⟨o + k.val, by omega⟩ j) := by
  rw [View.ld_unit]
  refine congrArg w (funext fun a => Fin.ext ?_)
  fin_cases a
  · rfl
  · exact Nat.zero_add _

/-- Eleven terms written out. -/
theorem sum_eleven (g : Fin 11 → EReal) :
    ∑ c, g c = g 0 + g 1 + g 2 + g 3 + g 4 + g 5 + g 6 + g 7 + g 8 + g 9 + g 10 := by
  rw [Fin.sum_univ_castSucc, Fin.sum_univ_castSucc, Fin.sum_univ_castSucc, Fin.sum_univ_eight]
  rfl

/-- A sum over the hidden columns, chunk by chunk onto a start. -/
theorem sum_chunks (a : EReal) (f : Fin 2816 → EReal) :
    a + (∑ k : Fin 256, f ⟨0 + k.val, by omega⟩) + (∑ k : Fin 256, f ⟨256 + k.val, by omega⟩)
      + (∑ k : Fin 256, f ⟨512 + k.val, by omega⟩) + (∑ k : Fin 256, f ⟨768 + k.val, by omega⟩)
      + (∑ k : Fin 256, f ⟨1024 + k.val, by omega⟩) + (∑ k : Fin 256, f ⟨1280 + k.val, by omega⟩)
      + (∑ k : Fin 256, f ⟨1536 + k.val, by omega⟩) + (∑ k : Fin 256, f ⟨1792 + k.val, by omega⟩)
      + (∑ k : Fin 256, f ⟨2048 + k.val, by omega⟩) + (∑ k : Fin 256, f ⟨2304 + k.val, by omega⟩)
      + (∑ k : Fin 256, f ⟨2560 + k.val, by omega⟩) = a + ∑ k : Fin 2816, f k := by
  have key : ∑ k : Fin 2816, f k
      = ∑ c : Fin 11, ∑ k : Fin 256, f ⟨256 * c.val + k.val, by omega⟩ := by
    rw [← Fintype.sum_prod_type' (f := fun (c : Fin 11) (k : Fin 256) => f ⟨256 * c.val + k.val, by omega⟩),
      ← (finProdFinEquiv (m := 11) (n := 256)).sum_comp]
    refine Finset.sum_congr rfl fun p _ => congrArg f (Fin.ext ?_)
    show p.2.val + 256 * p.1.val = 256 * p.1.val + p.2.val
    omega
  rw [key, sum_eleven]
  simp only [← add_assoc]
  rfl

/-- The eleven chunks, one after another, from the input blocks. -/
theorem body_eq (x0 : Vec Ideal S512x1024 .f32) (x1 : Vec Ideal S1x1024 .f32) (x2 x3 : Vec Ideal S1024x2816 .bf16)
    (x4 : Vec Ideal S2816x1024 .bf16) (y : S512x1024.Idx) :
    out0_5 x0 x1 x2 x3 x4 y
      = x0 y + ∑ k : Fin 2816, column (k0_pay2 x0 x1) x2 x3 x4 (y 0) (y 1) k := by
  have e : out0_5 x0 x1 x2 x3 x4 =
      let h := k0_pay2 x0 x1
      addChunk h (addChunk h (addChunk h (addChunk h (addChunk h (addChunk h (addChunk h (addChunk h (addChunk h
        (addChunk h (addChunk h x0 (View.ld x2 r0_2) (View.ld x3 r0_2) (View.ld x4 r0_3))
        (View.ld x2 r0_4) (View.ld x3 r0_4) (View.ld x4 r0_5)) (View.ld x2 r0_6) (View.ld x3 r0_6) (View.ld x4 r0_7))
        (View.ld x2 r0_8) (View.ld x3 r0_8) (View.ld x4 r0_9)) (View.ld x2 r0_10) (View.ld x3 r0_10) (View.ld x4 r0_11))
        (View.ld x2 r0_12) (View.ld x3 r0_12) (View.ld x4 r0_13)) (View.ld x2 r0_14) (View.ld x3 r0_14) (View.ld x4 r0_15))
        (View.ld x2 r0_16) (View.ld x3 r0_16) (View.ld x4 r0_17)) (View.ld x2 r0_18) (View.ld x3 r0_18) (View.ld x4 r0_19))
        (View.ld x2 r0_20) (View.ld x3 r0_20) (View.ld x4 r0_21)) (View.ld x2 r0_22) (View.ld x3 r0_22) (View.ld x4 r0_23) := by
    frame_out
    have hh : k0_pay17 x0 x1 x2 x3 x4 = k0_pay2 x0 x1 := by unfold k0_pay17; frame_out
    rw [hh]
    rfl
  rw [e]
  dsimp only
  rw [addChunk_at _ _ x2 x3 x4 _ _ _ 2560 (by omega) (cols_at x2 2560 (by omega) _) (cols_at x3 2560 (by omega) _) (rows_at x4 2560 (by omega) _),
    addChunk_at _ _ x2 x3 x4 _ _ _ 2304 (by omega) (cols_at x2 2304 (by omega) _) (cols_at x3 2304 (by omega) _) (rows_at x4 2304 (by omega) _),
    addChunk_at _ _ x2 x3 x4 _ _ _ 2048 (by omega) (cols_at x2 2048 (by omega) _) (cols_at x3 2048 (by omega) _) (rows_at x4 2048 (by omega) _),
    addChunk_at _ _ x2 x3 x4 _ _ _ 1792 (by omega) (cols_at x2 1792 (by omega) _) (cols_at x3 1792 (by omega) _) (rows_at x4 1792 (by omega) _),
    addChunk_at _ _ x2 x3 x4 _ _ _ 1536 (by omega) (cols_at x2 1536 (by omega) _) (cols_at x3 1536 (by omega) _) (rows_at x4 1536 (by omega) _),
    addChunk_at _ _ x2 x3 x4 _ _ _ 1280 (by omega) (cols_at x2 1280 (by omega) _) (cols_at x3 1280 (by omega) _) (rows_at x4 1280 (by omega) _),
    addChunk_at _ _ x2 x3 x4 _ _ _ 1024 (by omega) (cols_at x2 1024 (by omega) _) (cols_at x3 1024 (by omega) _) (rows_at x4 1024 (by omega) _),
    addChunk_at _ _ x2 x3 x4 _ _ _ 768 (by omega) (cols_at x2 768 (by omega) _) (cols_at x3 768 (by omega) _) (rows_at x4 768 (by omega) _),
    addChunk_at _ _ x2 x3 x4 _ _ _ 512 (by omega) (cols_at x2 512 (by omega) _) (cols_at x3 512 (by omega) _) (rows_at x4 512 (by omega) _),
    addChunk_at _ _ x2 x3 x4 _ _ _ 256 (by omega) (cols_at x2 256 (by omega) _) (cols_at x3 256 (by omega) _) (rows_at x4 256 (by omega) _),
    addChunk_at _ _ x2 x3 x4 _ _ _ 0 (by omega) (cols_at x2 0 (by omega) _) (cols_at x3 0 (by omega) _) (rows_at x4 0 (by omega) _)]
  exact sum_chunks (x0 y) (column (k0_pay2 x0 x1) x2 x3 x4 (y 0) (y 1))

variable (m : (ℓ : Loc nD τ sig) → Buf (Elt Ideal) ℓ)

/-- The reference's composed term: the rows plus the gated feed-forward map of their normalized values. -/
abbrev refTerm (x : FVec Ideal S16896x1024 .f32) (g : FVec Ideal S1024 .f32)
    (w : FVec Ideal S1024x5632 .f32) (d : FVec Ideal S2816x1024 .f32) : FVec Ideal S16896x1024 .f32 :=
  Cert.FfnRefIdeal.Read.val_main_v19 (F := Ideal) x g w d

/-- Where each window's block sits, for every grid point. -/
theorem places : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![t.val, 0] :=
  (by decide +kernel : ∀ t : Fin grid0.N, _)

/-- What a point stores at a block index is the reference's value where that index sits in the array. -/
theorem stored (c : Dev nD) (t : Fin cfg0.N) (y) :
    out0_5 (iblk m c 0 t) (iblk m c 1 t) (iblk m c 2 t) (iblk m c 3 t) (iblk m c 4 t) y
      = refTerm (m ((c : Thread nD τ).loc main_arg0)) (m ((c : Thread nD τ).loc main_arg1))
          (m ((c : Thread nD τ).loc main_arg2)) (m ((c : Thread nD τ).loc main_arg3)) (((cfg0.win 5).blk t).view.emb y) := by
  rw [body_eq]
  simp only [column, gate_quotient]
  pointwise [k0_pay2, refTerm, Cert.FfnRefIdeal.Read.val_main_v19, Cert.FfnRefIdeal.Read.val_main_v18, Cert.FfnRefIdeal.Read.val_main_v17, Cert.FfnRefIdeal.Read.val_main_v16, Cert.FfnRefIdeal.Read.val_main_call0_v5, Cert.FfnRefIdeal.Read.val_main_call0_v4, Cert.FfnRefIdeal.Read.val_main_call0_cst_0, Cert.FfnRefIdeal.Read.val_main_call0_v3, Cert.FfnRefIdeal.Read.val_main_call0_v2, Cert.FfnRefIdeal.Read.val_main_call0_cst, Cert.FfnRefIdeal.Read.val_main_call0_v1, Cert.FfnRefIdeal.Read.val_main_call0_v0, Cert.FfnRefIdeal.Read.val_main_v15, Cert.FfnRefIdeal.Read.val_main_v14, Cert.FfnRefIdeal.Read.val_main_v13, Cert.FfnRefIdeal.Read.val_main_v12, Cert.FfnRefIdeal.Read.val_main_v11, Cert.FfnRefIdeal.Read.val_main_v10, Cert.FfnRefIdeal.Read.val_main_v9, Cert.FfnRefIdeal.Read.val_main_v8, Cert.FfnRefIdeal.Read.val_main_v7, Cert.FfnRefIdeal.Read.val_main_v6, Cert.FfnRefIdeal.Read.val_main_v5, Cert.FfnRefIdeal.Read.val_main_cst_1, Cert.FfnRefIdeal.Read.val_main_v4, Cert.FfnRefIdeal.Read.val_main_v3, Cert.FfnRefIdeal.Read.val_main_cst_0, Cert.FfnRefIdeal.Read.val_main_v2, Cert.FfnRefIdeal.Read.val_main_v1, Cert.FfnRefIdeal.Read.val_main_cst, Cert.FfnRefIdeal.Read.val_main_v0]
  blk_point [iblk, V, places t]

/-- The result array after the run is the reference's term of the argument arrays. -/
theorem result (c : Dev nD) : (dats m 0 c).arrAt 5 (cfgs 0).N
    = refTerm (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]
  exact stored m c t y

end Cert.FfnIdeal.Whole

end
-- ==== Proof.DiffSweep.lean ====
module

public import proofs.«01_k».proof.Proof.Gen.KernelIdeal.Skeleton
public import Idealize.ShloMosaic.Lib.Pipeline.ValueKit

/-! One block of 512 keys folded into a running softmax, over the reals: what the row maximum and the two accumulated
sums (the weighted values and the weights) become. -/

@[expose] public section

set_option maxRecDepth 16384

noncomputable section

namespace Cert.KernelIdeal.Whole

open Idealize.ShloMosaic Idealize.ShloMosaic.TcCoe Idealize.SL.Sem
open Cert.KernelIdeal Cert.KernelIdeal.Gen

/-- The weight of a score against a real reference level. -/
def wt (s : EReal) (μ : ℝ) : ℝ := (Ideal.exp (s - (μ : EReal))).toReal

theorem exp_sub_real (s : EReal) (hs : s ≠ ⊤) (μ : ℝ) : Ideal.exp (s - (μ : EReal)) = ((wt s μ : ℝ) : EReal) := by
  unfold wt
  induction s using EReal.rec with
  | top => exact absurd rfl hs
  | bot => rw [EReal.bot_sub]; rfl
  | coe x => rw [← EReal.coe_sub]; rfl

theorem wt_coe (x μ : ℝ) : wt (x : EReal) μ = Real.exp (x - μ) := by
  unfold wt; rw [← EReal.coe_sub]; rfl

theorem wt_bot (μ : ℝ) : wt ⊥ μ = 0 := by
  unfold wt; rw [EReal.bot_sub]; rfl

/-- Changing the level rescales a weight. -/
theorem wt_rescale (s : EReal) (hs : s ≠ ⊤) (μ ν : ℝ) : Real.exp (μ - ν) * wt s μ = wt s ν := by
  induction s using EReal.rec with
  | top => exact absurd rfl hs
  | bot => rw [wt_bot, wt_bot, mul_zero]
  | coe x => rw [wt_coe, wt_coe, ← Real.exp_add]; congr 1; ring

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The largest of a block's 512 scores, row by row and spread over the lanes. -/
def blockMax (s : FVec Ideal S128x512 .f32) : FVec Ideal S128x128 .f32 :=
  broadcastTo S128x128 (shapeCast S128x1 (multiReduction .maximumf [1] S128
    (maximumf (maximumf (maximumf (extractStridedSlice S128x128 ![0, 0] s slices_S128x512_o0_0_S128x128)
      (extractStridedSlice S128x128 ![0, 128] s slices_S128x512_o0_128_S128x128))
      (extractStridedSlice S128x128 ![0, 256] s slices_S128x512_o0_256_S128x128))
      (extractStridedSlice S128x128 ![0, 384] s slices_S128x512_o0_384_S128x128))
    0xFF800000#32 reduces_S128x128_S128 (.inl rfl) rfl) shapeCasts_S128_S128x1) broadcasts_S128x1_S128x128

/-- The exponentials of a block's scores less the level. -/
def weights (s : FVec Ideal S128x512 .f32) (M : FVec Ideal S128x128 .f32) : FVec Ideal S128x512 .f32 :=
  concatenate S128x512 1
    [⟨S128x128, exp (subf (extractStridedSlice S128x128 ![0, 0] s slices_S128x512_o0_0_S128x128) M)⟩,
     ⟨S128x128, exp (subf (extractStridedSlice S128x128 ![0, 128] s slices_S128x512_o0_128_S128x128) M)⟩,
     ⟨S128x128, exp (subf (extractStridedSlice S128x128 ![0, 256] s slices_S128x512_o0_256_S128x128) M)⟩,
     ⟨S128x128, exp (subf (extractStridedSlice S128x128 ![0, 384] s slices_S128x512_o0_384_S128x128) M)⟩]
    concatenates_S128x128_S128x128_S128x128_S128x128_S128x512_d1

/-- A block's weighted values and its weights. -/
def blockSum (s : FVec Ideal S128x512 .f32) (M : FVec Ideal S128x128 .f32) (v1 : FVec Ideal S512x256 .bf16) :
    FVec Ideal S128x256 .f32 :=
  matmul dot_S128x512_S512x256_S128x256_1_0_0_1_n_n none (truncf .bf16 (weights s M) bitsLt_bf16_f32) v1
    (constant S128x256 .f32 0x00000000#32)

/-- The new level. -/
def nextMax (s : FVec Ideal S128x512 .f32) (mo : FVec Ideal S128x128 .f32) : FVec Ideal S128x128 .f32 :=
  maximumf mo (blockMax s)

/-- The new sums. -/
def nextSum (s : FVec Ideal S128x512 .f32) (mo : FVec Ideal S128x128 .f32) (v1 : FVec Ideal S512x256 .bf16)
    (ao : FVec Ideal S128x256 .f32) : FVec Ideal S128x256 .f32 :=
  addf (mulf (concatenate S128x256 1 [⟨S128x128, exp (subf mo (nextMax s mo))⟩, ⟨S128x128, exp (subf mo (nextMax s mo))⟩]
    concatenates_S128x128_S128x128_S128x256_d1) ao) (blockSum s (nextMax s mo) v1)

theorem ofBits_bot : Ideal.ofBits .f32 0xFF800000#32 = ⊥ := by simp [Ideal.ofBits, Ideal.ieee]

/-- A row's largest score is not `+∞` when none is. -/
theorem blockMax_at (s : FVec Ideal S128x512 .f32) (r : Fin 128) (hs : ∀ j, s (ix2 r j) ≠ ⊤) :
    ∃ x : EReal, x ≠ ⊤ ∧ (∀ l, blockMax s (ix2 r l) = x) ∧ ∀ j, s (ix2 r j) ≤ x := by
  refine ⟨blockMax s (ix2 r 0), ?_, ?_, ?_⟩
  · pointwise [blockMax, ofBits_bot]
    refine ne_of_lt (Finset.fold_max_lt _ |>.mpr ⟨bot_lt_top, fun x _ => ?_⟩)
    exact max_lt (max_lt (max_lt (lt_top_iff_ne_top.mpr (hs _)) (lt_top_iff_ne_top.mpr (hs _)))
      (lt_top_iff_ne_top.mpr (hs _))) (lt_top_iff_ne_top.mpr (hs _))
  · intro l
    pointwise [blockMax]
  · intro j
    pointwise [blockMax, ofBits_bot]
    have hj := j.isLt
    have key : ∀ (x : Fin 128) (i : Fin 512), i.val = x.val ∨ i.val = 128 + x.val ∨ i.val = 256 + x.val ∨ i.val = 384 + x.val →
        s (ix2 r i) ≤ max (max (max (s (ix2 r ⟨x.val, by omega⟩)) (s (ix2 r ⟨128 + x.val, by omega⟩)))
          (s (ix2 r ⟨256 + x.val, by omega⟩))) (s (ix2 r ⟨384 + x.val, by omega⟩)) := by
      rintro x ⟨i, hi⟩ (h | h | h | h) <;> simp only at h <;> subst h
      · exact le_max_of_le_left (le_max_of_le_left (le_max_left _ _))
      · exact le_max_of_le_left (le_max_of_le_left (le_max_right _ _))
      · exact le_max_of_le_left (le_max_right _ _)
      · exact le_max_right _ _
    exact (Finset.le_fold_max _).mpr (.inr ⟨⟨j.val % 128, Nat.mod_lt _ (by norm_num)⟩, Finset.mem_univ _,
      key _ j (by simp only; omega)⟩)

/-- The weights, entry by entry, on a row whose level is the same in every lane. -/
theorem weights_at (s : FVec Ideal S128x512 .f32) (M : FVec Ideal S128x128 .f32) (r : Fin 128) (μ : ℝ)
    (hM : ∀ l, M (ix2 r l) = (μ : EReal)) (j : Fin 512) :
    weights s M (ix2 r j) = Ideal.exp (s (ix2 r j) - (μ : EReal)) := by
  pointwise [weights, hM]
  have hj := j.isLt
  have key : ∀ (n : Nat) (hn : n < 512), n = j.val → s (ix2 r ⟨n, hn⟩) = s (ix2 r j) := by
    rintro n hn rfl; rfl
  by_cases h0 : j.val < 128
  · rw [dif_pos h0]
  rw [dif_neg h0]
  by_cases h1 : j.val - 128 < 128
  · rw [dif_pos h1, key _ _ (by omega)]
  rw [dif_neg h1]
  by_cases h2 : j.val - 128 - 128 < 128
  · rw [dif_pos h2, key _ _ (by omega)]
  rw [dif_neg h2, key _ _ (by omega)]

theorem blockSum_at (s : FVec Ideal S128x512 .f32) (M : FVec Ideal S128x128 .f32) (v1 : FVec Ideal S512x256 .bf16)
    (r : Fin 128) (e : Fin 256) :
    blockSum s M v1 (ix2 r e) = ∑ j : Fin 512, weights s M (ix2 r j) * v1 (ix2 j e) := by
  pointwise [blockSum]

theorem nextSum_at (s : FVec Ideal S128x512 .f32) (mo : FVec Ideal S128x128 .f32) (v1 : FVec Ideal S512x256 .bf16)
    (ao : FVec Ideal S128x256 .f32) (r : Fin 128) (e : Fin 256) (μ ν : EReal)
    (hm : ∀ l, mo (ix2 r l) = μ) (hn : ∀ l, nextMax s mo (ix2 r l) = ν) :
    nextSum s mo v1 ao (ix2 r e)
      = Ideal.exp (μ - ν) * ao (ix2 r e) + blockSum s (nextMax s mo) v1 (ix2 r e) := by
  pointwise [nextSum, hm, hn]
  by_cases h : e.val < 128
  · rw [dif_pos h]
  · rw [dif_neg h]

/-- A block's sums on a row: real numbers, when the level, the values and the scores but `-∞` are. -/
theorem blockSum_real (s : FVec Ideal S128x512 .f32) (M : FVec Ideal S128x128 .f32) (v1 : FVec Ideal S512x256 .bf16)
    (r : Fin 128) (ν : ℝ) (hM : ∀ l, M (ix2 r l) = (ν : EReal)) (hs : ∀ j, s (ix2 r j) ≠ ⊤)
    (w : Fin 512 → Fin 256 → ℝ) (hw : ∀ j e, v1 (ix2 j e) = (w j e : EReal)) (e : Fin 256) :
    blockSum s M v1 (ix2 r e) = ((∑ j, wt (s (ix2 r j)) ν * w j e : ℝ) : EReal) := by
  rw [blockSum_at, coe_sum]
  refine Finset.sum_congr rfl fun j _ => ?_
  rw [weights_at s M r ν hM j, exp_sub_real _ (hs j), hw, EReal.coe_mul]

/-- The first block of a row that has some score: a real level, and the block's sums. -/
theorem first_row (s : FVec Ideal S128x512 .f32) (v1 : FVec Ideal S512x256 .bf16) (r : Fin 128)
    (hs : ∀ j, s (ix2 r j) ≠ ⊤) (hb : ∃ j, s (ix2 r j) ≠ ⊥)
    (w : Fin 512 → Fin 256 → ℝ) (hw : ∀ j e, v1 (ix2 j e) = (w j e : EReal)) :
    ∃ ν : ℝ, (∀ l, blockMax s (ix2 r l) = (ν : EReal))
      ∧ ∀ e, blockSum s (blockMax s) v1 (ix2 r e) = ((∑ j, wt (s (ix2 r j)) ν * w j e : ℝ) : EReal) := by
  obtain ⟨x, hx, hl, hle⟩ := blockMax_at s r hs
  obtain ⟨j, hj⟩ := hb
  have hx' : x ≠ ⊥ := fun h => hj (le_bot_iff.mp (h ▸ hle j))
  lift x to ℝ using ⟨hx, hx'⟩
  exact ⟨x, hl, blockSum_real s _ v1 r x hl hs w hw⟩

/-- A further block: the level stays real and the sums so far are rescaled to it. -/
theorem next_row (s : FVec Ideal S128x512 .f32) (mo : FVec Ideal S128x128 .f32) (v1 : FVec Ideal S512x256 .bf16)
    (ao : FVec Ideal S128x256 .f32) (r : Fin 128) (hs : ∀ j, s (ix2 r j) ≠ ⊤)
    (w : Fin 512 → Fin 256 → ℝ) (hw : ∀ j e, v1 (ix2 j e) = (w j e : EReal))
    (μ : ℝ) (hm : ∀ l, mo (ix2 r l) = (μ : EReal)) (a : Fin 256 → ℝ) (ha : ∀ e, ao (ix2 r e) = (a e : EReal)) :
    ∃ ν : ℝ, (∀ l, nextMax s mo (ix2 r l) = (ν : EReal))
      ∧ ∀ e, nextSum s mo v1 ao (ix2 r e)
          = ((Real.exp (μ - ν) * a e + ∑ j, wt (s (ix2 r j)) ν * w j e : ℝ) : EReal) := by
  obtain ⟨x, hx, hl, -⟩ := blockMax_at s r hs
  have hmax : ∀ l, nextMax s mo (ix2 r l) = max (μ : EReal) x := fun l => by
    pointwise [nextMax, hm, hl]
  obtain ⟨ν, hν⟩ : ∃ ν : ℝ, max (μ : EReal) x = (ν : EReal) := by
    generalize hy : max (μ : EReal) x = y
    have h1 : y ≠ ⊤ := hy ▸ (max_lt (EReal.coe_lt_top μ) (lt_top_iff_ne_top.mpr hx)).ne
    have h2 : y ≠ ⊥ := hy ▸ (lt_of_lt_of_le (EReal.bot_lt_coe μ) (le_max_left _ _)).ne'
    lift y to ℝ using ⟨h1, h2⟩
    exact ⟨y, rfl⟩
  have hn : ∀ l, nextMax s mo (ix2 r l) = (ν : EReal) := fun l => (hmax l).trans hν
  refine ⟨ν, hn, fun e => ?_⟩
  rw [nextSum_at s mo v1 ao r e μ ν hm hn, blockSum_real s _ v1 r ν hn hs w hw e, ha e, exp_sub_real _ (EReal.coe_ne_top μ),
    wt_coe, EReal.coe_add, EReal.coe_mul]

end Cert.KernelIdeal.Whole
-- ==== Proof.DiffTrip.lean ====
module

public import proofs.«01_k».proof.Proof.Gen.KernelIdeal.Frame
public import proofs.«01_k».proof.Proof.DiffSweep
public import Idealize.ShloMosaic.Lib.WritesUnit

/-! One trip of the loop over the earlier key blocks: what it leaves in the two scratch buffers. -/

@[expose] public section

set_option maxRecDepth 16384

noncomputable section

namespace Cert.KernelIdeal.Whole

open Idealize.ShloMosaic Idealize.ShloMosaic.TcCoe Idealize.SL.Sem
open Cert.KernelIdeal Cert.KernelIdeal.Gen

/-- Row `r` of group `g` of the stacked 512 rows. -/
def row (g : Fin 4) (r : Fin 128) : Fin 512 := ⟨128 * g.val + r.val, by omega⟩

/-- A group's rows. -/
def part {n : Nat} {φ : FTy} (X : FVec Ideal ⟨2, ![512, n]⟩ φ) (g : Fin 4) : FVec Ideal ⟨2, ![128, n]⟩ φ :=
  fun y => X (ix2 (row g (y 0)) (y 1))

theorem slice_part (X : FVec Ideal S512x128 .bf16) (off : Fin 2 → Nat) (h) (g : Fin 4) (ho : off = ![128 * g.val, 0]) :
    extractStridedSlice S128x128 off X h = part X g := by
  subst ho
  refine funext fun y => congrArg X (funext fun a => Fin.ext ?_)
  fin_cases a
  · rfl
  · exact Nat.zero_add _

theorem readAt_part {n : Nat} {sig : RefSig} {κ : Kind} {sp : Space} (v : View sig κ sp ⟨2, ![512, n]⟩ .f32)
    (f : v.ty.Contents (Elt Ideal)) (off : Fin 2 → Nat) (inb : ∀ a : Fin 2, off a + (![128, n] : Fin 2 → Nat) a ≤ (![512, n] : Fin 2 → Nat) a) (g : Fin 4) (ho : off = ![128 * g.val, 0]) :
    v.readAt (Elt Ideal) (Rect.unit (s := ⟨2, ![512, n]⟩) off ![128, n] inb).toLoadRect f = part (φ := .f32) (v.read (Elt Ideal) f) g := by
  subst ho
  refine funext fun y => congrArg (v.read (Elt Ideal) f) (funext fun a => Fin.ext ?_)
  fin_cases a
  · exact congrArg (128 * g.val + ·) (Nat.one_mul _)
  · exact (Nat.zero_add _).trans (Nat.one_mul _)

/-- A group's scores against a block of keys. -/
def logits (q : FVec Ideal S128x128 .bf16) (kb : FVec Ideal S512x128 .bf16) : FVec Ideal S128x512 .f32 :=
  matmul dot_S128x128_S512x128_S128x512_1_1_0_0_n_n none q kb (constant S128x512 .f32 0x00000000#32)

theorem logits_at (q : FVec Ideal S128x128 .bf16) (kb : FVec Ideal S512x128 .bf16) (r : Fin 128) (j : Fin 512) :
    logits q kb (ix2 r j) = ∑ l : Fin 128, q (ix2 r l) * kb (ix2 j l) := by
  pointwise [logits]

/-- Four groups' rows written one after another. -/
def four {n : Nat} (P : Fin 4 → FVec Ideal ⟨2, ![128, n]⟩ .f32) : List (View.Piece (Elt Ideal) ⟨2, ![512, n]⟩ .f32) :=
  [⟨Rect.unit (s := ⟨2, ![512, n]⟩) ![384, 0] ![128, n] (by intro a; fin_cases a <;> simp), P 3⟩,
   ⟨Rect.unit (s := ⟨2, ![512, n]⟩) ![256, 0] ![128, n] (by intro a; fin_cases a <;> simp), P 2⟩,
   ⟨Rect.unit (s := ⟨2, ![512, n]⟩) ![128, 0] ![128, n] (by intro a; fin_cases a <;> simp), P 1⟩,
   ⟨Rect.unit (s := ⟨2, ![512, n]⟩) ![0, 0] ![128, n] (by intro a; fin_cases a <;> simp), P 0⟩]

/-- What is then read at a row is its group's. -/
theorem read_four {n : Nat} {sig : RefSig} {κ : Kind} {sp : Space} (v : View sig κ sp ⟨2, ![512, n]⟩ .f32)
    (f : v.ty.Contents (Elt Ideal)) (P : Fin 4 → FVec Ideal ⟨2, ![128, n]⟩ .f32)
    (L : List (View.Piece (Elt Ideal) ⟨2, ![512, n]⟩ .f32)) (g : Fin 4) (r : Fin 128) (l : Fin n) :
    v.read (Elt Ideal) (v.writes (Elt Ideal) f (four P ++ L)) (ix2 (row g r) l) = P g (ix2 r l) := by
  have hr := r.isLt
  unfold four
  simp only [List.cons_append, List.nil_append]
  have skip : ∀ (o : Nat) (inb) (w) (L' : List (View.Piece (Elt Ideal) ⟨2, ![512, n]⟩ .f32)), (128 * g.val + r.val < o) →
      v.read (Elt Ideal) (v.writes (Elt Ideal) f ((⟨Rect.unit (s := ⟨2, ![512, n]⟩) ![o, 0] ![128, n] inb, w⟩ : View.Piece (Elt Ideal) ⟨2, ![512, n]⟩ .f32) :: L')) (ix2 (row g r) l)
        = v.read (Elt Ideal) (v.writes (Elt Ideal) f L') (ix2 (row g r) l) := fun o inb w L' h =>
    View.read_writes_cons_rows_of_not_mem v f inb w L' _ (o := o) (W := 128) rfl rfl (.inl h)
  have take : ∀ (o : Nat) (inb) (w : FVec Ideal ⟨2, ![128, n]⟩ .f32) (L' : List (View.Piece (Elt Ideal) ⟨2, ![512, n]⟩ .f32)), (128 * g.val = o) →
      v.read (Elt Ideal) (v.writes (Elt Ideal) f ((⟨Rect.unit (s := ⟨2, ![512, n]⟩) ![o, 0] ![128, n] inb, w⟩ : View.Piece (Elt Ideal) ⟨2, ![512, n]⟩ .f32) :: L')) (ix2 (row g r) l)
        = w (ix2 r l) := fun o inb w L' h =>
    View.read_writes_cons_rows_of_mem v f inb w L' _ (ix2 r l) (o := o) rfl (by
      show 128 * g.val + r.val = o + r.val
      rw [h]) rfl
  fin_cases g
  · rw [skip 384 _ _ _ (by simp only; omega), skip 256 _ _ _ (by simp only; omega), skip 128 _ _ _ (by simp only; omega)]
    exact take 0 _ _ _ rfl
  · rw [skip 384 _ _ _ (by simp only; omega), skip 256 _ _ _ (by simp only; omega)]
    exact take 128 _ _ _ rfl
  · rw [skip 384 _ _ _ (by simp only; omega)]
    exact take 256 _ _ _ rfl
  · exact take 384 _ _ _ rfl

/-- The values and a column block of ones beside them. -/
abbrev withOnes (vb : FVec Ideal S512x128 .bf16) : FVec Ideal S512x256 .bf16 := k0_pay2 vb

theorem withOnes_at (vb : FVec Ideal S512x128 .bf16) (j : Fin 512) (e : Fin 256) :
    withOnes vb (ix2 j e) = if h : e.val < 128 then vb (ix2 j ⟨e.val, h⟩) else 1 := by
  have one : Ideal.ofBits .bf16 0x3F80#16 = 1 := by simp [Ideal.ofBits, Ideal.ieee, -EReal.coe_mul]; norm_num
  pointwise [withOnes, k0_pay2, one]

section
variable (𝒱 : Variants) (c : Dev nD) (bd : Option 𝒱.V) (i : grid0.Coords) (arg3 : Memref sig .tc .vmem S1x128 .f32) (harg3 : arg3.IsWhole) (arg4 : Memref sig .tc .vmem S1x128 .f32) (harg4 : arg4.IsWhole) (arg5 : Memref sig .tc .vmem S256x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S256x128 .bf16) (harg8 : arg8.IsWhole) (arg9 : Memref sig .tc .vmem S512x128 .f32) (harg9 : arg9.IsWhole) (arg10 : Memref sig .tc .vmem S512x256 .f32) (harg10 : arg10.IsWhole)
    (v13 : FVec Ideal S512x128 .bf16) (v31 : BitVec 32) (v41 : FVec Ideal S512x256 .bf16) (v169 : FVec Ideal S128x512 .f32) (v174 : IVec S128x512 32) (v175 : BitVec 32) (X6 : BufTy.Contents (Elt Ideal) arg6.view.ty) (X7 : BufTy.Contents (Elt Ideal) arg7.view.ty)

/-- The block of keys a trip loads. -/
def keysAt (k : Fin (k0_t1_loop i).trips) : FVec Ideal S512x128 .bf16 :=
  arg6.view.readAt (Elt Ideal) (Rect.unit (s := S8192x128) (k0_off2 i k) S512x128.size (k0_off2_inb i k)).toLoadRect X6

/-- A trip's pieces: each group's next level and next sums. -/
theorem trip_pieces (k : Fin (k0_t1_loop i).trips) (f9 : BufTy.Contents (Elt Ideal) arg9.view.ty) (f10 : BufTy.Contents (Elt Ideal) arg10.view.ty) :
    tripL_k0_t1 (F := Ideal) 𝒱 c bd i arg3 harg3 arg4 harg4 arg5 harg5 arg6 harg6 arg7 harg7 arg8 harg8 arg9 harg9 arg10 harg10 v13 v31 v41 v169 v174 v175 X6 X7 k f9 f10
      = (four fun g => nextMax (logits (part v13 g) (keysAt i arg6 X6 k)) (part (arg9.view.read (Elt Ideal) f9) g),
         four fun g => nextSum (logits (part v13 g) (keysAt i arg6 X6 k)) (part (arg9.view.read (Elt Ideal) f9) g)
           (withOnes (keysAt i arg7 X7 k)) (part (arg10.view.read (Elt Ideal) f10) g)) := by
  have hm : (fun g => nextMax (logits (part v13 g) (keysAt i arg6 X6 k)) (part (arg9.view.read (Elt Ideal) f9) g))
      = fun g => shapeCast S128x128 (nextMax (logits (part v13 g) (keysAt i arg6 X6 k)) (part (arg9.view.read (Elt Ideal) f9) g))
          shapeCasts_S128x128_S128x128 := funext fun g => funext fun y => by
    generalize nextMax _ _ = z; pointwise []
  have ha : (fun g => nextSum (logits (part v13 g) (keysAt i arg6 X6 k)) (part (arg9.view.read (Elt Ideal) f9) g)
           (withOnes (keysAt i arg7 X7 k)) (part (arg10.view.read (Elt Ideal) f10) g))
      = fun g => shapeCast S128x256 (nextSum (logits (part v13 g) (keysAt i arg6 X6 k)) (part (arg9.view.read (Elt Ideal) f9) g)
           (withOnes (keysAt i arg7 X7 k)) (part (arg10.view.read (Elt Ideal) f10) g))
          shapeCasts_S128x256_S128x256 := funext fun g => funext fun y => by
    generalize nextSum _ _ _ _ = z; pointwise []
  rw [hm, ha]
  unfold four
  dsimp only
  simp only [← slice_part v13 ![0, 0] slices_S512x128_o0_0_S128x128 0 rfl,
    ← slice_part v13 ![128, 0] slices_S512x128_o128_0_S128x128 1 rfl,
    ← slice_part v13 ![256, 0] slices_S512x128_o256_0_S128x128 2 rfl,
    ← slice_part v13 ![384, 0] slices_S512x128_o384_0_S128x128 3 rfl,
    ← readAt_part arg9.view f9 ![0, 0] inb_S512x128_S128x128_0_0 0 rfl,
    ← readAt_part arg9.view f9 ![128, 0] inb_S512x128_S128x128_128_0 1 rfl,
    ← readAt_part arg9.view f9 ![256, 0] inb_S512x128_S128x128_256_0 2 rfl,
    ← readAt_part arg9.view f9 ![384, 0] inb_S512x128_S128x128_384_0 3 rfl,
    ← readAt_part arg10.view f10 ![0, 0] inb_S512x256_S128x256_0_0 0 rfl,
    ← readAt_part arg10.view f10 ![128, 0] inb_S512x256_S128x256_128_0 1 rfl,
    ← readAt_part arg10.view f10 ![256, 0] inb_S512x256_S128x256_256_0 2 rfl,
    ← readAt_part arg10.view f10 ![384, 0] inb_S512x256_S128x256_384_0 3 rfl]
  unfold tripL_k0_t1 trip_k0_t1
  rfl
end

end Cert.KernelIdeal.Whole
-- ==== Proof.DiffRun.lean ====
module

public import proofs.«01_k».proof.Proof.DiffTrip

/-! The running softmax over the loop's trips: after any number of them the level of each row is a real number and the
two sums are those over the keys seen so far. -/

@[expose] public section

set_option maxRecDepth 16384

noncomputable section

namespace Cert.KernelIdeal.Whole

open Idealize.ShloMosaic Idealize.ShloMosaic.TcCoe Idealize.SL.Sem
open Cert.KernelIdeal Cert.KernelIdeal.Gen

/-- Each row's level is real, and its sums are those of the keys in `done` at that level. -/
def Inv (S : Fin 4 → Fin 128 → Fin 8192 → EReal) (V : Fin 8192 → Fin 256 → ℝ) (done : Finset (Fin 8192))
    (R9 : FVec Ideal S512x128 .f32) (R10 : FVec Ideal S512x256 .f32) : Prop :=
  ∀ g r, ∃ μ : ℝ, (∀ l, R9 (ix2 (row g r) l) = (μ : EReal))
    ∧ ∀ e, R10 (ix2 (row g r) e) = ((∑ j ∈ done, wt (S g r j) μ * V j e : ℝ) : EReal)

/-- The keys of block `k`. -/
def block (k : Nat) : Finset (Fin 8192) := Finset.univ.filter fun j => j.val / 512 = k

/-- A sum over a block, key by key. -/
theorem sum_block (k : Nat) (hk : 512 * k + 512 ≤ 8192) (f : Fin 8192 → ℝ) :
    ∑ j ∈ block k, f j = ∑ x : Fin 512, f ⟨512 * k + x.val, by omega⟩ := by
  refine (Finset.sum_nbij (fun x : Fin 512 => (⟨512 * k + x.val, by omega⟩ : Fin 8192)) (fun x _ => ?_) (fun x _ y _ h => ?_)
    (fun j hj => ?_) (fun x _ => rfl)).symm
  · refine Finset.mem_filter.mpr ⟨Finset.mem_univ _, ?_⟩
    show (512 * k + x.val) / 512 = k
    omega
  · have := congrArg Fin.val h
    exact Fin.ext (by simp only at this; omega)
  · have h := (Finset.mem_filter.mp hj).2
    exact ⟨⟨j.val % 512, Nat.mod_lt _ (by norm_num)⟩, Finset.mem_coe.mpr (Finset.mem_univ _), Fin.ext (by simp only; omega)⟩

/-- The first block written over anything. -/
theorem first_inv {sig : RefSig} {κ : Kind} {sp sp' : Space} (v9 : View sig κ sp S512x128 .f32) (v10 : View sig κ sp' S512x256 .f32)
    (f9 : v9.ty.Contents (Elt Ideal)) (f10 : v10.ty.Contents (Elt Ideal))
    (S : Fin 4 → Fin 128 → Fin 8192 → EReal) (V : Fin 8192 → Fin 256 → ℝ) (k : Nat) (hk : 512 * k + 512 ≤ 8192)
    (s : Fin 4 → FVec Ideal S128x512 .f32) (v1 : FVec Ideal S512x256 .bf16)
    (hS : ∀ g r j, S g r j ≠ ⊤) (hb : ∀ g r, ∃ x : Fin 512, S g r ⟨512 * k + x.val, by omega⟩ ≠ ⊥)
    (hs : ∀ g r (x : Fin 512), s g (ix2 r x) = S g r ⟨512 * k + x.val, by omega⟩)
    (hv : ∀ (x : Fin 512) e, v1 (ix2 x e) = (V ⟨512 * k + x.val, by omega⟩ e : EReal)) :
    Inv S V (block k) (v9.read (Elt Ideal) (v9.writes (Elt Ideal) f9 (four fun g => blockMax (s g))))
      (v10.read (Elt Ideal) (v10.writes (Elt Ideal) f10 (four fun g => blockSum (s g) (blockMax (s g)) v1))) := by
  intro g r
  obtain ⟨ν, hl, he⟩ := first_row (s g) v1 r (fun j => by rw [hs]; exact hS _ _ _)
    ((hb g r).imp fun x hx => by rw [hs]; exact hx) _ hv
  refine ⟨ν, fun l => ?_, fun e => ?_⟩
  · have := read_four v9 f9 (fun g => blockMax (s g)) [] g r l
    rw [List.append_nil] at this
    exact this.trans (hl l)
  · have := read_four v10 f10 (fun g => blockSum (s g) (blockMax (s g)) v1) [] g r e
    rw [List.append_nil] at this
    refine this.trans ((he e).trans (congrArg _ ?_))
    rw [sum_block k hk]
    exact Finset.sum_congr rfl fun x _ => by rw [hs]

section
variable (𝒱 : Variants) (c : Dev nD) (bd : Option 𝒱.V) (i : grid0.Coords) (arg3 : Memref sig .tc .vmem S1x128 .f32) (harg3 : arg3.IsWhole) (arg4 : Memref sig .tc .vmem S1x128 .f32) (harg4 : arg4.IsWhole) (arg5 : Memref sig .tc .vmem S256x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S256x128 .bf16) (harg8 : arg8.IsWhole) (arg9 : Memref sig .tc .vmem S512x128 .f32) (harg9 : arg9.IsWhole) (arg10 : Memref sig .tc .vmem S512x256 .f32) (harg10 : arg10.IsWhole)
    (v13 : FVec Ideal S512x128 .bf16) (v31 : BitVec 32) (v41 : FVec Ideal S512x256 .bf16) (v169 : FVec Ideal S128x512 .f32) (v174 : IVec S128x512 32) (v175 : BitVec 32) (X6 : BufTy.Contents (Elt Ideal) arg6.view.ty) (X7 : BufTy.Contents (Elt Ideal) arg7.view.ty)

/-- One trip adds its block. -/
theorem trip_inv (k : Fin (k0_t1_loop i).trips) (hk : 512 * k.val + 512 ≤ 8192)
    (f9 : BufTy.Contents (Elt Ideal) arg9.view.ty) (f10 : BufTy.Contents (Elt Ideal) arg10.view.ty)
    (S : Fin 4 → Fin 128 → Fin 8192 → EReal) (V : Fin 8192 → Fin 256 → ℝ) (done : Finset (Fin 8192))
    (hS : ∀ g r j, S g r j ≠ ⊤)
    (hs : ∀ g r (x : Fin 512), logits (part v13 g) (keysAt i arg6 X6 k) (ix2 r x) = S g r ⟨512 * k.val + x.val, by omega⟩)
    (hv : ∀ (x : Fin 512) e, withOnes (keysAt i arg7 X7 k) (ix2 x e) = (V ⟨512 * k.val + x.val, by omega⟩ e : EReal))
    (hd : Disjoint done (block k.val))
    (hI : Inv S V done (arg9.view.read (Elt Ideal) f9) (arg10.view.read (Elt Ideal) f10)) :
    Inv S V (done ∪ block k.val)
      (arg9.view.read (Elt Ideal) (arg9.view.writes (Elt Ideal) f9 (tripL_k0_t1 (F := Ideal) 𝒱 c bd i arg3 harg3 arg4 harg4 arg5 harg5 arg6 harg6 arg7 harg7 arg8 harg8 arg9 harg9 arg10 harg10 v13 v31 v41 v169 v174 v175 X6 X7 k f9 f10).1))
      (arg10.view.read (Elt Ideal) (arg10.view.writes (Elt Ideal) f10 (tripL_k0_t1 (F := Ideal) 𝒱 c bd i arg3 harg3 arg4 harg4 arg5 harg5 arg6 harg6 arg7 harg7 arg8 harg8 arg9 harg9 arg10 harg10 v13 v31 v41 v169 v174 v175 X6 X7 k f9 f10).2)) := by
  rw [trip_pieces]
  intro g r
  obtain ⟨μ, hl, he⟩ := hI g r
  obtain ⟨ν, hl', he'⟩ := next_row (logits (part v13 g) (keysAt i arg6 X6 k)) (part (arg9.view.read (Elt Ideal) f9) g)
    (withOnes (keysAt i arg7 X7 k)) (part (arg10.view.read (Elt Ideal) f10) g) r (fun j => by rw [hs]; exact hS _ _ _) _ hv
    μ hl _ he
  refine ⟨ν, fun l => ?_, fun e => ?_⟩
  · have := read_four arg9.view f9 (fun g => nextMax (logits (part v13 g) (keysAt i arg6 X6 k)) (part (arg9.view.read (Elt Ideal) f9) g)) [] g r l
    rw [List.append_nil] at this
    exact this.trans (hl' l)
  · have := read_four arg10.view f10 (fun g => nextSum (logits (part v13 g) (keysAt i arg6 X6 k)) (part (arg9.view.read (Elt Ideal) f9) g)
           (withOnes (keysAt i arg7 X7 k)) (part (arg10.view.read (Elt Ideal) f10) g)) [] g r e
    rw [List.append_nil] at this
    refine this.trans ((he' e).trans (congrArg _ ?_))
    rw [Finset.sum_union hd, sum_block k.val hk, Finset.mul_sum]
    refine congrArg₂ (· + ·) (Finset.sum_congr rfl fun j _ => ?_) (Finset.sum_congr rfl fun x _ => by rw [hs])
    rw [← mul_assoc, wt_rescale _ (hS _ _ _)]

/-- The keys seen once `k` trips have run after block `d`. -/
def seen (d k : Nat) : Finset (Fin 8192) := Finset.univ.filter fun j => j.val / 512 = d ∨ j.val / 512 < k

/-- All trips: from the first block's state to every key seen. -/
theorem loop_inv (d : Nat) (hd : 512 * d + 512 ≤ 8192) (hn : (k0_t1_loop i).trips ≤ d)
    (G9 : BufTy.Contents (Elt Ideal) arg9.view.ty) (G10 : BufTy.Contents (Elt Ideal) arg10.view.ty)
    (S : Fin 4 → Fin 128 → Fin 8192 → EReal) (V : Fin 8192 → Fin 256 → ℝ)
    (hS : ∀ g r j, S g r j ≠ ⊤)
    (hs : ∀ (k : Fin (k0_t1_loop i).trips) g r (x : Fin 512),
      logits (part v13 g) (keysAt i arg6 X6 k) (ix2 r x) = S g r ⟨512 * k.val + x.val, by omega⟩)
    (hv : ∀ (k : Fin (k0_t1_loop i).trips) (x : Fin 512) e,
      withOnes (keysAt i arg7 X7 k) (ix2 x e) = (V ⟨512 * k.val + x.val, by omega⟩ e : EReal))
    (hI : Inv S V (block d) (arg9.view.read (Elt Ideal) G9) (arg10.view.read (Elt Ideal) G10)) :
    ∀ k : Nat, k ≤ (k0_t1_loop i).trips → Inv S V (seen d k)
      (arg9.view.read (Elt Ideal) (arg9.view.writes (Elt Ideal) G9 (pb_k0_t1 (F := Ideal) 𝒱 c bd i arg3 harg3 arg4 harg4 arg5 harg5 arg6 harg6 arg7 harg7 arg8 harg8 arg9 harg9 arg10 harg10 v13 v31 v41 v169 v174 v175 X6 X7 G9 G10 k).1))
      (arg10.view.read (Elt Ideal) (arg10.view.writes (Elt Ideal) G10 (pb_k0_t1 (F := Ideal) 𝒱 c bd i arg3 harg3 arg4 harg4 arg5 harg5 arg6 harg6 arg7 harg7 arg8 harg8 arg9 harg9 arg10 harg10 v13 v31 v41 v169 v174 v175 X6 X7 G9 G10 k).2)) := by
  intro k
  induction k with
  | zero =>
    intro _
    have h0 : seen d 0 = block d := Finset.filter_congr fun j _ => by simp
    rw [h0]
    exact hI
  | succ k ih =>
    intro hk
    have h1 : seen d (k + 1) = seen d k ∪ block k := by
      ext j
      simp only [seen, block, Finset.mem_union, Finset.mem_filter, Finset.mem_univ, true_and]
      omega
    have h2 : Disjoint (seen d k) (block k) := Finset.disjoint_left.mpr fun j ha hb => by
      simp only [seen, block, Finset.mem_filter, Finset.mem_univ, true_and] at ha hb
      omega
    rw [h1, pb_k0_t1_succ 𝒱 c bd i arg3 harg3 arg4 harg4 arg5 harg5 arg6 harg6 arg7 harg7 arg8 harg8 arg9 harg9 arg10 harg10 v13 v31 v41 v169 v174 v175 X6 X7 G9 G10 ⟨k, hk⟩]
    dsimp only
    rw [View.writes_append, View.writes_append]
    exact trip_inv 𝒱 c bd i arg3 harg3 arg4 harg4 arg5 harg5 arg6 harg6 arg7 harg7 arg8 harg8 arg9 harg9 arg10 harg10 v13 v31 v41 v169 v174 v175 X6 X7 ⟨k, hk⟩ (by simp only; omega) _ _ S V _ hS (hs ⟨k, hk⟩) (hv ⟨k, hk⟩) h2
      (ih (by omega))
end

end Cert.KernelIdeal.Whole
-- ==== Proof.DiffStart.lean ====
module

public import proofs.«01_k».proof.Proof.DiffRun
public import proofs.«01_k».proof.Proof.Gen.KernelIdeal.Frame
public import Idealize.ShloMosaic.Lib.WordCmp

/-! Where a grid point starts: the block on the diagonal, its masked scores, and the two counted loops' ranges. -/

@[expose] public section

set_option maxRecDepth 16384

noncomputable section

namespace Cert.KernelIdeal.Whole

open Idealize.ShloMosaic Idealize.ShloMosaic.TcCoe Idealize.SL.Sem
open Cert.KernelIdeal Cert.KernelIdeal.Gen

/-- The number of the key block on the diagonal, as the kernel computes it. -/
def diagWord (iw : BitVec 32) : BitVec 32 :=
  Scalar.select
    (Scalar.andi
      (Scalar.cmpi .ne
        (Scalar.subi (Scalar.extui (Scalar.cmpi .sgt (Scalar.muli iw 256#32) 0#32)) (Scalar.extui (Scalar.cmpi .slt (Scalar.muli iw 256#32) 0#32)))
        (Scalar.subi (Scalar.extui (Scalar.cmpi .sgt 512#32 0#32)) (Scalar.extui (Scalar.cmpi .slt 512#32 0#32))))
      (Scalar.cmpi .ne (Scalar.remsi (Scalar.muli iw 256#32) 512#32) 0#32))
    (Scalar.subi (Scalar.divsi (Scalar.muli iw 256#32) 512#32) 1#32)
    (Scalar.divsi (Scalar.muli iw 256#32) 512#32)

theorem diagWord_eq (n : Fin 32) : diagWord (BitVec.ofNat 32 n.val) = BitVec.ofNat 32 (n.val / 2) := by
  revert n; decide +kernel

theorem off1_eq (i : grid0.Coords) : k0_off1 i = ![512 * ((i 2).val / 2), 0] := by
  have : ∀ n : Fin 32, (Scalar.muli (diagWord (BitVec.ofNat 32 n.val)) 512#32).toNat = 512 * (n.val / 2) := by decide +kernel
  rw [← this (i 2)]
  rfl

theorem trips1_eq (i : grid0.Coords) : (k0_t1_loop i).trips = (i 2).val / 2 := by
  revert i; decide +kernel

theorem trips2_eq (i : grid0.Coords) : (k0_t2_loop i).trips = 0 := by
  revert i; decide +kernel

theorem off2_eq (i : grid0.Coords) (k : Fin (k0_t1_loop i).trips) : k0_off2 i k = ![512 * k.val, 0] := by
  have hk : k.val < 16 := by
    have h1 : k.val < (i 2).val / 2 := lt_of_lt_of_eq k.isLt (trips1_eq i)
    have h2 : (i 2).val < 32 := (i 2).isLt
    omega
  have : ∀ x : Fin 16, (Scalar.indexCast (Scalar.muli (Scf.iv 0#32 1#32 x.val) 512#32)).toNat = 512 * x.val := by decide +kernel
  have := this ⟨k.val, hk⟩
  unfold k0_off2
  dsimp only at this ⊢
  rw [this]

/-- The word the mask is named by is `−∞`. -/
theorem mask_bot : (Named.named (F := Ideal) κ "mask" (φ := .f32) 0xF149F2CA#32) = (⊥ : EReal) := rfl

/-- The scores of a group against the diagonal block, those of later keys masked. -/
def masked (iw jw off : BitVec 32) (s : FVec Ideal S128x512 .f32) : FVec Ideal S128x512 .f32 :=
  select (cmpi .sle (addi (broadcast S128x512 (Scalar.muli jw 512#32)) (iota .tc S128x512 32 [1] iota_S128x512_d1_w32))
    (addi (broadcast S128x512 (Scalar.addi (Scalar.muli iw 256#32) off)) (iota .tc S128x512 32 [0] iota_S128x512_d0_w32)))
    s (broadcast S128x512 (Named.named κ "mask" 0xF149F2CA#32))

theorem masked_at (n : Fin 32) (o : Nat) (ho : o ≤ 128) (s : FVec Ideal S128x512 .f32) (r : Fin 128) (x : Fin 512) :
    masked (BitVec.ofNat 32 n.val) (BitVec.ofNat 32 (n.val / 2)) (BitVec.ofNat 32 o) s (ix2 r x)
      = if 512 * (n.val / 2) + x.val ≤ 256 * n.val + o + r.val then s (ix2 r x) else ⊥ := by
  pointwise [masked, mask_bot]
  have hm : ∀ a b : Nat, Scalar.muli (BitVec.ofNat 32 a) (BitVec.ofNat 32 b) = BitVec.ofNat 32 (a * b) := fun a b => (BitVec.ofNat_mul a b).symm
  have ha : ∀ a b : Nat, Scalar.addi (BitVec.ofNat 32 a) (BitVec.ofNat 32 b) = BitVec.ofNat 32 (a + b) := fun a b => (BitVec.ofNat_add a b).symm
  have hb : ∀ a b : Nat, IntOp.addi (BitVec.ofNat 32 a) (BitVec.ofNat 32 b) = BitVec.ofNat 32 (a + b) := fun a b => (BitVec.ofNat_add a b).symm
  rw [hm, hm, ha, hb, hb]
  rw [WordCmp.cmpi_sle_ofNat (by have := n.isLt; have := x.isLt; norm_num; omega) (by have := n.isLt; have := r.isLt; norm_num; omega)]
  simp only [hlo_ix]
  have h : (n.val / 2 * 512 + x.val ≤ n.val * 256 + o + r.val) ↔ (512 * (n.val / 2) + x.val ≤ 256 * n.val + o + r.val) := by omega
  simp only [h]

section
variable (iw jw : BitVec 32) (qq : FVec Ideal S512x128 .bf16) (KB VB : FVec Ideal S512x128 .bf16)

/-- The masked scores of group `g`. -/
def diagScores (g : Fin 4) : FVec Ideal S128x512 .f32 :=
  masked iw jw ((![0#32, 128#32, 0#32, 128#32] : Fin 4 → BitVec 32) g) (logits (part qq g) KB)

theorem scores0 : k0_pay66 iw qq jw KB = diagScores iw jw qq KB 0 := by
  unfold diagScores
  rw [← slice_part qq ![0, 0] slices_S512x128_o0_0_S128x128 0 rfl]
  rfl
theorem scores1 : k0_pay75 iw jw KB (k0_pay74 qq) (constant S128x512 .f32 0x00000000#32) = diagScores iw jw qq KB 1 := by
  unfold diagScores
  rw [← slice_part qq ![128, 0] slices_S512x128_o128_0_S128x128 1 rfl]
  rfl
theorem scores2 : k0_pay84 jw (k0_pay83 qq KB) (Scalar.addi (Scalar.muli iw 256#32) 0#32) = diagScores iw jw qq KB 2 := by
  unfold diagScores
  rw [← slice_part qq ![256, 0] slices_S512x128_o256_0_S128x128 2 rfl]
  rfl
theorem scores3 : k0_pay94 (k0_pay92 qq KB) (k0_pay93 iw) (Scalar.muli jw 512#32) = diagScores iw jw qq KB 3 := by
  unfold diagScores
  rw [← slice_part qq ![384, 0] slices_S512x128_o384_0_S128x128 3 rfl]
  rfl

theorem levels0 : k0_pay71 iw qq jw KB = blockMax (diagScores iw jw qq KB 0) := by
  unfold diagScores
  rw [← slice_part qq ![0, 0] slices_S512x128_o0_0_S128x128 0 rfl]
  unfold k0_pay71
  simp only [shapeCast_id]
  rfl
theorem levels1 : k0_pay80 iw jw KB (k0_pay74 qq) (constant S128x512 .f32 0x00000000#32) = blockMax (diagScores iw jw qq KB 1) := by
  unfold diagScores
  rw [← slice_part qq ![128, 0] slices_S512x128_o128_0_S128x128 1 rfl]
  unfold k0_pay80
  simp only [shapeCast_id]
  rfl
theorem levels2 : k0_pay89 jw (k0_pay83 qq KB) (Scalar.addi (Scalar.muli iw 256#32) 0#32) = blockMax (diagScores iw jw qq KB 2) := by
  unfold diagScores
  rw [← slice_part qq ![256, 0] slices_S512x128_o256_0_S128x128 2 rfl]
  unfold k0_pay89
  simp only [shapeCast_id]
  rfl
theorem levels3 : k0_pay99 (k0_pay92 qq KB) (k0_pay93 iw) (Scalar.muli jw 512#32) = blockMax (diagScores iw jw qq KB 3) := by
  unfold diagScores
  rw [← slice_part qq ![384, 0] slices_S512x128_o384_0_S128x128 3 rfl]
  unfold k0_pay99
  simp only [shapeCast_id]
  rfl

theorem ones_eq : k0_pay65 VB = withOnes VB := by
  unfold k0_pay65 withOnes k0_pay2
  rfl

theorem sums0 : k0_pay72 iw qq jw KB VB = blockSum (diagScores iw jw qq KB 0) (blockMax (diagScores iw jw qq KB 0)) (withOnes VB) := by
  unfold k0_pay72
  dsimp only
  rw [shapeCast_id, levels0]
  generalize blockMax (diagScores iw jw qq KB 0) = M
  unfold k0_pay67 k0_pay68 k0_pay69 k0_pay70
  dsimp only
  rw [scores0]
  generalize diagScores iw jw qq KB 0 = s
  rw [ones_eq]
  generalize withOnes VB = v1
  unfold blockSum weights
  with_reducible rfl
theorem sums1 : k0_pay81 iw jw KB (k0_pay65 VB) (k0_pay74 qq) (constant S128x512 .f32 0x00000000#32)
    = blockSum (diagScores iw jw qq KB 1) (blockMax (diagScores iw jw qq KB 1)) (withOnes VB) := by
  unfold k0_pay81
  dsimp only
  rw [shapeCast_id, levels1]
  generalize blockMax (diagScores iw jw qq KB 1) = M
  unfold k0_pay76 k0_pay77 k0_pay78 k0_pay79
  dsimp only
  rw [scores1]
  generalize diagScores iw jw qq KB 1 = s
  rw [ones_eq]
  generalize withOnes VB = v1
  unfold blockSum weights
  with_reducible rfl
theorem sums2 : k0_pay90 jw (k0_pay65 VB) (k0_pay83 qq KB) (Scalar.addi (Scalar.muli iw 256#32) 0#32)
    = blockSum (diagScores iw jw qq KB 2) (blockMax (diagScores iw jw qq KB 2)) (withOnes VB) := by
  unfold k0_pay90
  dsimp only
  rw [shapeCast_id, levels2]
  generalize blockMax (diagScores iw jw qq KB 2) = M
  unfold k0_pay85 k0_pay86 k0_pay87 k0_pay88
  dsimp only
  rw [scores2]
  generalize diagScores iw jw qq KB 2 = s
  rw [ones_eq]
  generalize withOnes VB = v1
  unfold blockSum weights
  with_reducible rfl
theorem sums3 : k0_pay100 (k0_pay65 VB) (k0_pay92 qq KB) (k0_pay93 iw) (Scalar.muli jw 512#32)
    = blockSum (diagScores iw jw qq KB 3) (blockMax (diagScores iw jw qq KB 3)) (withOnes VB) := by
  unfold k0_pay100
  dsimp only
  rw [shapeCast_id, levels3]
  generalize blockMax (diagScores iw jw qq KB 3) = M
  unfold k0_pay95 k0_pay96 k0_pay97 k0_pay98
  dsimp only
  rw [scores3]
  generalize diagScores iw jw qq KB 3 = s
  rw [ones_eq]
  generalize withOnes VB = v1
  unfold blockSum weights
  with_reducible rfl

/-- The levels written first. -/
def firstLevels : List (View.Piece (Elt Ideal) S512x128 .f32) :=
  [⟨Rect.unit ![384, 0] ![128, 128] inb_S512x128_S128x128_384_0, k0_pay101 (k0_pay92 qq KB) (k0_pay93 iw) (Scalar.muli jw 512#32)⟩,
   ⟨Rect.unit ![256, 0] ![128, 128] inb_S512x128_S128x128_256_0, k0_pay91 jw (k0_pay83 qq KB) (Scalar.addi (Scalar.muli iw 256#32) 0#32)⟩,
   ⟨Rect.unit ![128, 0] ![128, 128] inb_S512x128_S128x128_128_0, k0_pay82 iw jw KB (k0_pay74 qq) (constant S128x512 .f32 0x00000000#32)⟩,
   ⟨Rect.unit ![0, 0] ![128, 128] inb_S512x128_S128x128_0_0, k0_pay73 iw qq jw KB⟩]

/-- The sums written first. -/
def firstSums : List (View.Piece (Elt Ideal) S512x256 .f32) :=
  [⟨Rect.unit ![384, 0] ![128, 256] inb_S512x256_S128x256_384_0, k0_pay100 (k0_pay65 VB) (k0_pay92 qq KB) (k0_pay93 iw) (Scalar.muli jw 512#32)⟩,
   ⟨Rect.unit ![256, 0] ![128, 256] inb_S512x256_S128x256_256_0, k0_pay90 jw (k0_pay65 VB) (k0_pay83 qq KB) (Scalar.addi (Scalar.muli iw 256#32) 0#32)⟩,
   ⟨Rect.unit ![128, 0] ![128, 256] inb_S512x256_S128x256_128_0, k0_pay81 iw jw KB (k0_pay65 VB) (k0_pay74 qq) (constant S128x512 .f32 0x00000000#32)⟩,
   ⟨Rect.unit ![0, 0] ![128, 256] inb_S512x256_S128x256_0_0, k0_pay72 iw qq jw KB VB⟩]

theorem firstLevels_eq : firstLevels iw jw qq KB = four fun g => blockMax (diagScores iw jw qq KB g) := by
  unfold firstLevels k0_pay101 k0_pay91 k0_pay82 k0_pay73
  simp only [shapeCast_id, levels0, levels1, levels2, levels3]
  rfl

theorem firstSums_eq : firstSums iw jw qq KB VB
    = four fun g => blockSum (diagScores iw jw qq KB g) (blockMax (diagScores iw jw qq KB g)) (withOnes VB) := by
  unfold firstSums
  simp only [sums0, sums1, sums2, sums3]
  rfl
end

end Cert.KernelIdeal.Whole
-- ==== Proof.DiffPoint.lean ====
module

public import proofs.«01_k».proof.Proof.DiffStart

/-! What the second scratch buffer holds when a grid point's loops are done. -/

@[expose] public section

set_option maxRecDepth 16384

noncomputable section

namespace Cert.KernelIdeal.Whole

open Idealize.ShloMosaic Idealize.ShloMosaic.TcCoe Idealize.SL.Sem
open Cert.KernelIdeal Cert.KernelIdeal.Gen

/-- The score of row `r` of group `g` of query tile `n` against key `j`, masked. -/
def score (n : Fin 32) (qq : FVec Ideal S512x128 .bf16) (K : FVec Ideal S8192x128 .bf16) (g : Fin 4) (r : Fin 128) (j : Fin 8192) : EReal :=
  if j.val ≤ 256 * n.val + (128 * g.val + r.val) % 256 then ∑ l : Fin 128, qq (ix2 (row g r) l) * K (ix2 j l) else ⊥

/-- The values with ones beside them. -/
def valueAt (Vv : FVec Ideal S8192x128 .bf16) (j : Fin 8192) (e : Fin 256) : ℝ :=
  if h : e.val < 128 then (Vv (ix2 j ⟨e.val, h⟩)).toReal else 1

theorem valueAt_coe (Vv : FVec Ideal S8192x128 .bf16) (hV : ∀ y, Vv y ≠ ⊤ ∧ Vv y ≠ ⊥) (j : Fin 8192) (e : Fin 256) :
    (valueAt Vv j e : EReal) = if h : e.val < 128 then Vv (ix2 j ⟨e.val, h⟩) else 1 := by
  unfold valueAt
  split_ifs with h
  · exact EReal.coe_toReal (hV _).1 (hV _).2
  · rfl

/-- A block of 512 rows loaded from `o` on. -/
theorem ld_rows (X : FVec Ideal S8192x128 .bf16) (off : Fin 2 → Nat) (inb) (o : Nat) (ho : off = ![o, 0]) (hn : o + 512 ≤ 8192)
    (x : Fin 512) (l : Fin 128) :
    (View.ld (Val := Elt Ideal) (e' := .bf16) X (Rect.unit (s := S8192x128) off S512x128.size inb) (ix2 x l) : EReal) = X (ix2 ⟨o + x.val, by omega⟩ l) := by
  subst ho
  exact congrArg X (funext fun a => Fin.ext (by
    fin_cases a
    · show o + 1 * x.val = o + x.val
      omega
    · show 0 + 1 * l.val = l.val
      omega))

section
variable (𝒱 : Variants) (c : Dev nD) (bd : Option 𝒱.V) (i : grid0.Coords) (arg3 : Memref sig .tc .vmem S1x128 .f32) (harg3 : arg3.IsWhole) (arg4 : Memref sig .tc .vmem S1x128 .f32) (harg4 : arg4.IsWhole) (arg5 : Memref sig .tc .vmem S256x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S256x128 .bf16) (harg8 : arg8.IsWhole) (arg9 : Memref sig .tc .vmem S512x128 .f32) (harg9 : arg9.IsWhole) (arg10 : Memref sig .tc .vmem S512x256 .f32) (harg10 : arg10.IsWhole)
    (v13 : FVec Ideal S512x128 .bf16) (v31 : BitVec 32) (v41 : FVec Ideal S512x256 .bf16) (v169 : FVec Ideal S128x512 .f32) (v174 : IVec S128x512 32) (v175 : BitVec 32) (X6 : BufTy.Contents (Elt Ideal) arg6.view.ty) (X7 : BufTy.Contents (Elt Ideal) arg7.view.ty)

/-- The sums left are, at some real level, those over every key up to the diagonal block. -/
theorem canon_sums (L2 : List (View.Piece (Elt Ideal) S512x256 .f32)) (h2 : L2 = [])
    (K Vv : FVec Ideal S8192x128 .bf16) (h6 : arg6.view.read (Elt Ideal) X6 = K) (h7 : arg7.view.read (Elt Ideal) X7 = Vv)
    (n : Fin 32) (ht : (k0_t1_loop i).trips = n.val / 2) (iw jw : BitVec 32) (hiw : iw = BitVec.ofNat 32 n.val) (hjw : jw = BitVec.ofNat 32 (n.val / 2))
    (KB VB : FVec Ideal S512x128 .bf16)
    (hKB : ∀ (x : Fin 512) l, KB (ix2 x l) = K (ix2 ⟨512 * (n.val / 2) + x.val, by omega⟩ l))
    (hVB : ∀ (x : Fin 512) l, VB (ix2 x l) = Vv (ix2 ⟨512 * (n.val / 2) + x.val, by omega⟩ l))
    (hS : ∀ g r j, ∑ l : Fin 128, v13 (ix2 (row g r) l) * K (ix2 j l) ≠ ⊤ ∧ ∑ l : Fin 128, v13 (ix2 (row g r) l) * K (ix2 j l) ≠ ⊥)
    (hV : ∀ y, Vv y ≠ ⊤ ∧ Vv y ≠ ⊥) :
    ∀ g r, ∃ μ : ℝ, ∀ e, View.canon (L2 ++ ((pb_k0_t1 (F := Ideal) 𝒱 c bd i arg3 harg3 arg4 harg4 arg5 harg5 arg6 harg6 arg7 harg7 arg8 harg8 arg9 harg9 arg10 harg10 v13 v31 v41 v169 v174 v175 X6 X7
        (arg9.view.writes (Elt Ideal) arg9.view.junk (firstLevels iw jw v13 KB))
        (arg10.view.writes (Elt Ideal) arg10.view.junk (firstSums iw jw v13 KB VB)) (k0_t1_loop i).trips).2 ++ firstSums iw jw v13 KB VB))
          (ix2 (row g r) e)
        = ((∑ j ∈ seen (n.val / 2) (n.val / 2), wt (score n v13 K g r j) μ * valueAt Vv j e : ℝ) : EReal) := by
  subst h2 hiw hjw
  have hd : 512 * (n.val / 2) + 512 ≤ 8192 := by omega
  have hStop : ∀ g r j, score n v13 K g r j ≠ ⊤ := fun g r j => by
    unfold score
    split_ifs
    · exact (hS g r j).1
    · exact bot_ne_top
  have hfirst := first_inv arg9.view arg10.view arg9.view.junk arg10.view.junk (score n v13 K) (valueAt Vv) (n.val / 2) hd
    (diagScores (BitVec.ofNat 32 n.val) (BitVec.ofNat 32 (n.val / 2)) v13 KB) (withOnes VB) hStop
    (fun g r => ⟨0, by
      unfold score
      rw [if_pos (by simp only [Fin.val_zero]; omega)]
      exact (hS g r _).2⟩)
    (fun g r x => by
      have hg : diagScores (BitVec.ofNat 32 n.val) (BitVec.ofNat 32 (n.val / 2)) v13 KB g
          = masked (BitVec.ofNat 32 n.val) (BitVec.ofNat 32 (n.val / 2)) (BitVec.ofNat 32 (128 * (g.val % 2))) (logits (part v13 g) KB) := by
        fin_cases g <;> rfl
      rw [hg, masked_at n _ (by omega), logits_at]
      unfold score
      have he : (512 * (n.val / 2) + x.val ≤ 256 * n.val + 128 * (g.val % 2) + r.val)
          ↔ (512 * (n.val / 2) + x.val ≤ 256 * n.val + (128 * g.val + r.val) % 256) := by omega
      simp only [he, hKB]
      rfl)
    (fun x e => by
      rw [withOnes_at, valueAt_coe Vv hV]
      simp only [hVB])
  rw [← firstLevels_eq, ← firstSums_eq] at hfirst
  have hloop := loop_inv 𝒱 c bd i arg3 harg3 arg4 harg4 arg5 harg5 arg6 harg6 arg7 harg7 arg8 harg8 arg9 harg9 arg10 harg10 v13 v31 v41 v169 v174 v175 X6 X7 (n.val / 2) hd (le_of_eq ht)
    _ _ (score n v13 K) (valueAt Vv) hStop
    (fun k g r x => by
      have hk : k.val < n.val / 2 := lt_of_lt_of_eq k.isLt ht
      rw [logits_at]
      unfold score
      rw [if_pos (by simp only; omega)]
      refine Finset.sum_congr rfl fun l _ => congrArg₂ (· * ·) rfl ?_
      refine Eq.trans ?_ (ld_rows K _ (k0_off2_inb i k) (512 * k.val) (off2_eq i k) (by omega) x l)
      rw [← h6]
      rfl)
    (fun k x e => by
      have hk : k.val < n.val / 2 := lt_of_lt_of_eq k.isLt ht
      rw [withOnes_at, valueAt_coe Vv hV]
      have : ∀ l, keysAt i arg7 X7 k (ix2 x l) = Vv (ix2 ⟨512 * k.val + x.val, by omega⟩ l) := fun l => by
        refine Eq.trans ?_ (ld_rows Vv _ (k0_off2_inb i k) (512 * k.val) (off2_eq i k) (by omega) x l)
        rw [← h7]
        rfl
      simp only [this])
    hfirst (k0_t1_loop i).trips le_rfl
  intro g r
  obtain ⟨μ, _, he⟩ := hloop g r
  refine ⟨μ, fun e => ?_⟩
  rw [List.nil_append, ← View.read_writes_junk_eq_canon arg10.view, View.writes_append, he e, ht]

/-- The second loop makes no trip and writes nothing. -/
theorem second_empty (v214 : BitVec 32) (G9 : BufTy.Contents (Elt Ideal) arg9.view.ty) (G10 : BufTy.Contents (Elt Ideal) arg10.view.ty)
    (k : Nat) (hk : k = 0) :
    (pb_k0_t2 (F := Ideal) 𝒱 c bd i arg3 harg3 arg4 harg4 arg5 harg5 arg6 harg6 arg7 harg7 arg8 harg8 arg9 harg9 arg10 harg10 v13 v31 v41 v169 v174 v175 v214 X6 X7 G9 G10 k).2 = [] := by
  subst hk
  rfl
end

end Cert.KernelIdeal.Whole
-- ==== Proof.DiffOut.lean ====
module

public import proofs.«01_k».proof.Proof.DiffPoint

/-! What a grid point of the kernel writes to its block of the result. -/

@[expose] public section

set_option maxRecDepth 16384

noncomputable section

namespace Cert.KernelIdeal.Whole

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The query tile of a grid point. -/
def tile (t : Fin cfg0.N) : Fin 32 := grid0.coords t 2

/-- A grid point normalises the sums of its two maps and combines them. -/
theorem outs_at (c : Dev nD) (t : Fin cfg0.N)
    (hS : ∀ g r j, ∑ l : Fin 128, k0_pay64 (iblk m c 2 t) (ix2 (row g r) l) * (X0_3 m c t) (ix2 j l) ≠ (⊤ : EReal)
      ∧ ∑ l : Fin 128, k0_pay64 (iblk m c 2 t) (ix2 (row g r) l) * (X0_3 m c t) (ix2 j l) ≠ (⊥ : EReal))
    (hV : ∀ y, (X0_4 m c t) y ≠ (⊤ : EReal) ∧ (X0_4 m c t) y ≠ (⊥ : EReal)) :
    ∃ X : FVec Ideal S512x256 .f32,
      outsAt0 m c t = k0_pay1 (View.ld (Val := Elt Ideal) (e' := .f32) X (Rect.unit ![0, 0] ![512, 128] inb_S512x256_S512x128_0_0))
        (View.ld (Val := Elt Ideal) (e' := .f32) X (Rect.unit ![0, 128] ![512, 128] inb_S512x256_S512x128_0_128)) (iblk m c 0 t) (iblk m c 1 t)
      ∧ ∀ g r, ∃ μ : ℝ, ∀ e, X (ix2 (row g r) e)
        = ((∑ j ∈ seen ((tile t).val / 2) ((tile t).val / 2),
            wt (score (tile t) (k0_pay64 (iblk m c 2 t)) (X0_3 m c t) g r j) μ * valueAt (X0_4 m c t) j e : ℝ) : EReal) := by
  have ht := trips1_eq (grid0.coords t)
  have hoff := off1_eq (grid0.coords t)
  have hdw := diagWord_eq (tile t)
  unfold outsAt0
  frame_out
  refine ⟨_, rfl, ?_⟩
  refine canon_sums _ _ _ _ _ _ _ _ _ _ _ _ _ _ _ _ _ _ _ _ _ _ _ _ _ _ _ _ _ ?_ (X0_3 m c t) (X0_4 m c t) ?_ ?_ (tile t) ht
    (BitVec.ofNat 32 (grid0.coords t 2).val) (diagWord (BitVec.ofNat 32 (grid0.coords t 2).val)) rfl hdw _ _ ?_ ?_ hS hV
  · exact second_empty _ _ _ _ _ _ _ _ _ _ _ _ _ _ _ _ _ _ _ _ _ _ _ _ _ _ _ _ _ _ _ _ (trips2_eq (grid0.coords t))
  · exact (hs0_3 t).read_unread _
  · exact (hs0_4 t).read_unread _
  · exact fun x l => ld_rows (X0_3 m c t) _ _ _ hoff (by have := (tile t).isLt; unfold tile at this; omega) x l
  · exact fun x l => ld_rows (X0_4 m c t) _ _ _ hoff (by have := (tile t).isLt; unfold tile at this; omega) x l

end Cert.KernelIdeal.Whole
-- ==== Proof.DiffRef.lean ====
module

public import proofs.«01_k».proof.Proof.DiffSweep
public import proofs.«01_k».proof.Proof.Gen.ReferenceIdeal.Read
public import Idealize.ShloMosaic.Lib.WordCmp

/-! The reference of the differential attention, read entry by entry. -/

@[expose] public section

set_option maxRecDepth 16384

noncomputable section

namespace Cert.KernelIdeal.Whole

open Idealize.ShloMosaic Idealize.ShloMosaic.TcCoe Idealize.SL.Sem
open Cert.ReferenceIdeal Cert.ReferenceIdeal.Gen Cert.ReferenceIdeal.Read

variable (q k v : FVec Ideal S16896x1024 .bf16) (lam : FVec Ideal S1 .f32) (sub : FVec Ideal S128 .f32)

/-- Row `T` of sequence `b` in the flat rows. -/
def flatRow (b : Fin 2) (T : Fin 8192) : Fin 16896 := ⟨8192 * b.val + T.val, by omega⟩
/-- Lane `l` of map `c` of head `h`. -/
def mapLane (h : Fin 4) (c : Fin 2) (l : Fin 64) : Fin 1024 := ⟨128 * h.val + 64 * c.val + l.val, by omega⟩
/-- Lane `e` of head `h`. -/
def headLane (h : Fin 4) (e : Fin 128) : Fin 1024 := ⟨128 * h.val + e.val, by omega⟩

/-- A map's score, masked. -/
def refScore (b : Fin 2) (h : Fin 4) (c : Fin 2) (T j : Fin 8192) : EReal :=
  if j.val ≤ T.val then ∑ l : Fin 64, q (ix2 (flatRow b T) (mapLane h c l)) * k (ix2 (flatRow b j) (mapLane h c l)) else ⊥

theorem v6_at (b : Fin 2) (T : Fin 8192) (h : Fin 4) (c : Fin 2) (l : Fin 64) :
    val_main_v6 (F := Ideal) q (ix5 b T h c l) = q (ix2 (flatRow b T) (mapLane h c l)) := by
  rw [val_main_v6_apply, val_main_v1_apply, val_main_v0_apply]
  have e : idx_main_v0 (idx_main_v6 (ix5 b T h c l)) = ix2 (flatRow b T) (mapLane h c l) := funext fun a => Fin.ext (by
    match a with
    | ⟨0, _⟩ =>
      show ((((b.val * 8192 + T.val) * 4 + h.val) * 2 + c.val) * 64 + l.val) / 512 = 8192 * b.val + T.val
      omega
    | ⟨1, _⟩ =>
      show ((((b.val * 8192 + T.val) * 4 + h.val) * 2 + c.val) * 64 + l.val) % 512 = 128 * h.val + 64 * c.val + l.val
      omega)
  rw [e]
  rfl

theorem v7_at (b : Fin 2) (T : Fin 8192) (h : Fin 4) (c : Fin 2) (l : Fin 64) :
    val_main_v7 (F := Ideal) k (ix5 b T h c l) = k (ix2 (flatRow b T) (mapLane h c l)) := v6_at k b T h c l

theorem v8_at (b : Fin 2) (T : Fin 8192) (h : Fin 4) (e : Fin 128) :
    val_main_v8 (F := Ideal) v (ix4 b T h e) = v (ix2 (flatRow b T) (headLane h e)) := by
  rw [val_main_v8_apply, val_main_v5_apply, val_main_v4_apply]
  have e : idx_main_v4 (idx_main_v8 (ix4 b T h e)) = ix2 (flatRow b T) (headLane h e) := funext fun a => Fin.ext (by
    match a with
    | ⟨0, _⟩ =>
      show (((b.val * 8192 + T.val) * 4 + h.val) * 128 + e.val) / 512 = 8192 * b.val + T.val
      omega
    | ⟨1, _⟩ =>
      show (((b.val * 8192 + T.val) * 4 + h.val) * 128 + e.val) % 512 = 128 * h.val + e.val
      omega)
  rw [e]
  rfl

theorem v9_at (b : Fin 2) (h : Fin 4) (c : Fin 2) (T j : Fin 8192) :
    val_main_v9 (F := Ideal) q k (ix5 b h c T j)
      = ∑ l : Fin 64, q (ix2 (flatRow b T) (mapLane h c l)) * k (ix2 (flatRow b j) (mapLane h c l)) := by
  rw [val_main_v9_apply]
  refine Finset.sum_congr rfl fun l _ => ?_
  have hl : lidx_main_v9 (ix5 b h c T j) l = ix5 b T h c l := funext fun a => by
    match a with | ⟨0, _⟩ => rfl | ⟨1, _⟩ => rfl | ⟨2, _⟩ => rfl | ⟨3, _⟩ => rfl | ⟨4, _⟩ => rfl
  have hr : ridx_main_v9 (ix5 b h c T j) l = ix5 b j h c l := funext fun a => by
    match a with | ⟨0, _⟩ => rfl | ⟨1, _⟩ => rfl | ⟨2, _⟩ => rfl | ⟨3, _⟩ => rfl | ⟨4, _⟩ => rfl
  rw [hl, hr, v6_at, v7_at]

theorem v16_at (b : Fin 2) (h : Fin 4) (c : Fin 2) (T j : Fin 8192) :
    val_main_v16 (F := Ideal) q k (ix5 b h c T j) = refScore q k b h c T j := by
  rw [val_main_v16_apply, v9_at, val_main_call0_v1_apply, val_main_v15_apply, val_main_v13_apply, val_main_v14_apply,
    val_main_v11_apply, val_main_v12_apply, val_main_v10_apply, val_main_v10_apply]
  show Scalar.select (IntOp.cmpi .sle (BitVec.ofNat 32 j.val) (BitVec.ofNat 32 T.val)) _ (Ideal.ofBits .f32 0xFF800000#32) = _
  rw [WordCmp.cmpi_sle_ofNat (by have := j.isLt; norm_num; omega) (by have := T.isLt; norm_num; omega), ofBits_bot]
  simp only [hlo_ix]
  rfl

/-- The level the reference subtracts. -/
def refMax (b : Fin 2) (h : Fin 4) (c : Fin 2) (T : Fin 8192) : EReal := val_main_v19 (F := Ideal) q k (ix4 b h c T)

/-- It is the largest of the scores. -/
theorem refMax_eq (b : Fin 2) (h : Fin 4) (c : Fin 2) (T : Fin 8192) :
    refMax q k b h c T = max ⊥ ((Finset.univ : Finset (Fin 8192)).fold max ⊥ (refScore q k b h c T)) := by
  have e : val_main_v17 (F := Ideal) q k (ix4 b h c T)
      = (Finset.univ : Finset (Fin 8192)).fold max ⊥ (refScore q k b h c T) := by
    have hs := fun j => v16_at q k b h c T j
    unfold val_main_v17
    generalize val_main_v16 (F := Ideal) q k = y at hs
    have hb : val_main_cst_0 (F := Ideal) (Shape.Idx.first h_S_) = (⊥ : EReal) := ofBits_bot
    refine (Host.reduce_eq_fold_single (FloatOps.maximumf : Ideal .f32 → Ideal .f32 → Ideal .f32)
      (y : S2x4x2x8192x8192.Idx → Ideal .f32) _ reducesTo_S2x4x2x8192x8192_S2x4x2x8192_d4 (by decide) h_S_ _).trans ?_
    rw [hb]
    refine congrArg (fun f => Finset.fold max (⊥ : EReal) f (Finset.univ : Finset (Fin 8192))) (funext fun j => ?_)
    refine Eq.trans ?_ (hs j)
    exact congrArg y (funext fun a => Fin.ext (by match a with | ⟨0, _⟩ => rfl | ⟨1, _⟩ => rfl | ⟨2, _⟩ => rfl | ⟨3, _⟩ => rfl | ⟨4, _⟩ => rfl))
  unfold refMax
  rw [val_main_v19_apply, e, val_main_v18_apply]
  exact congrArg (fun z => max z _) ofBits_bot

/-- A map's weight of key `j`. -/
def refProb (b : Fin 2) (h : Fin 4) (c : Fin 2) (T j : Fin 8192) : EReal :=
  Ideal.div (Ideal.exp (refScore q k b h c T j - refMax q k b h c T))
    (∑ x : Fin 8192, Ideal.exp (refScore q k b h c T x - refMax q k b h c T))

theorem v23_at (b : Fin 2) (h : Fin 4) (c : Fin 2) (T j : Fin 8192) :
    val_main_v23 (F := Ideal) q k (ix5 b h c T j) = Ideal.exp (refScore q k b h c T j - refMax q k b h c T) := by
  rw [val_main_v23_apply, val_main_v22_apply, v16_at, val_main_v21_apply, val_main_v20_apply]
  have e : idx_main_v20 (idx_main_v21 (ix5 b h c T j)) = ix4 b h c T := funext fun a => by
    match a with | ⟨0, _⟩ => rfl | ⟨1, _⟩ => rfl | ⟨2, _⟩ => rfl | ⟨3, _⟩ => rfl
  rw [e]
  rfl

theorem v27_at (b : Fin 2) (h : Fin 4) (c : Fin 2) (T j : Fin 8192) :
    val_main_v27 (F := Ideal) q k (ix5 b h c T j) = refProb q k b h c T j := by
  rw [val_main_v27_apply, v23_at, val_main_v26_apply, val_main_v25_apply, val_main_v24_apply]
  have e : ∀ x, idx_main_v24 (idx_main_v25 (idx_main_v26 (ix5 b h c T j))) x = ix5 b h c T x := fun x => funext fun a => by
    match a with | ⟨0, _⟩ => rfl | ⟨1, _⟩ => rfl | ⟨2, _⟩ => rfl | ⟨3, _⟩ => rfl | ⟨4, _⟩ => rfl
  have z : (val_main_cst_2 (F := Ideal)) (Shape.Idx.first h_S_) = (0 : EReal) := by
    show Ideal.ofBits .f32 0x00000000#32 = 0
    simp [Ideal.ofBits, Ideal.ieee]
  simp only [e, v23_at, z, zero_add]
  rfl

/-- The combined maps against the values. -/
theorem v36_at (b : Fin 2) (h : Fin 4) (e : Fin 128) (T : Fin 8192) :
    val_main_v36 (F := Ideal) q k v lam (ix4 b h e T)
      = ∑ j : Fin 8192, v (ix2 (flatRow b j) (headLane h e))
          * (refProb q k b h 0 T j - lam (ix1 0) * refProb q k b h 1 T j) := by
  rw [val_main_v36_apply]
  refine Finset.sum_congr rfl fun j _ => ?_
  have hl : lidx_main_v36 (ix4 b h e T) j = ix4 b j h e := funext fun a => by
    match a with | ⟨0, _⟩ => rfl | ⟨1, _⟩ => rfl | ⟨2, _⟩ => rfl | ⟨3, _⟩ => rfl
  have hr : ridx_main_v36 (ix4 b h e T) j = ix4 b h T j := funext fun a => by
    match a with | ⟨0, _⟩ => rfl | ⟨1, _⟩ => rfl | ⟨2, _⟩ => rfl | ⟨3, _⟩ => rfl
  have i0 : idx_main_v28 (idx_main_v29 (ix4 b h T j)) = ix5 b h 0 T j := funext fun a => Fin.ext (by
    match a with
    | ⟨0, _⟩ => show (((b.val * 4 + h.val) * 8192 + T.val) * 8192 + j.val) / 268435456 = b.val; omega
    | ⟨1, _⟩ => show (((b.val * 4 + h.val) * 8192 + T.val) * 8192 + j.val) / 67108864 % 4 = h.val; omega
    | ⟨2, _⟩ => rfl
    | ⟨3, _⟩ => show (((b.val * 4 + h.val) * 8192 + T.val) * 8192 + j.val) / 8192 % 8192 = T.val; omega
    | ⟨4, _⟩ => show (((b.val * 4 + h.val) * 8192 + T.val) * 8192 + j.val) % 8192 = j.val; omega)
  have i1 : idx_main_v31 (idx_main_v32 (ix4 b h T j)) = ix5 b h 1 T j := funext fun a => Fin.ext (by
    match a with
    | ⟨0, _⟩ => show (((b.val * 4 + h.val) * 8192 + T.val) * 8192 + j.val) / 268435456 = b.val; omega
    | ⟨1, _⟩ => show (((b.val * 4 + h.val) * 8192 + T.val) * 8192 + j.val) / 67108864 % 4 = h.val; omega
    | ⟨2, _⟩ => rfl
    | ⟨3, _⟩ => show (((b.val * 4 + h.val) * 8192 + T.val) * 8192 + j.val) / 8192 % 8192 = T.val; omega
    | ⟨4, _⟩ => show (((b.val * 4 + h.val) * 8192 + T.val) * 8192 + j.val) % 8192 = j.val; omega)
  rw [hl, hr, v8_at, val_main_v35_apply, val_main_v34_apply, val_main_v29_apply, val_main_v28_apply, val_main_v32_apply,
    val_main_v31_apply, i0, i1, v27_at, v27_at, val_main_v33_apply]
  have hlam : val_main_v30 (F := Ideal) lam (idx_main_v33 (ix4 b h T j)) = lam (ix1 0) := by
    pointwise [val_main_v30]
  rw [hlam]
  rfl

/-- One head's output: the 128 entries over the root of their mean square, times the gain, times 0.8. -/
def headNorm (o g : Fin 128 → EReal) (e : Fin 128) : EReal :=
  o e * Ideal.rsqrt (Ideal.div (∑ l, o l * o l) (Ideal.ofBits .f32 0x43000000#32) + Ideal.ofBits .f32 0x358637BD#32) * g e
    * Ideal.ofBits .f32 0x3F4CCCCD#32

theorem v37_at (b : Fin 2) (T : Fin 8192) (h : Fin 4) (e : Fin 128) :
    val_main_v37 (F := Ideal) q k v lam (ix4 b T h e) = val_main_v36 (F := Ideal) q k v lam (ix4 b h e T) := by
  rw [val_main_v37_apply]
  exact congrArg _ (funext fun a => by match a with | ⟨0, _⟩ => rfl | ⟨1, _⟩ => rfl | ⟨2, _⟩ => rfl | ⟨3, _⟩ => rfl)

/-- The reference's result at a token and lane. -/
theorem v54_at (sub : FVec Ideal S128 .f32) (b : Fin 2) (T : Fin 8192) (h : Fin 4) (e : Fin 128)
    (R : Fin 16384) (C : Fin 512) (hR : R.val = 8192 * b.val + T.val) (hC : C.val = 128 * h.val + e.val) :
    val_main_v54 (F := Ideal) q k v lam sub (ix2 R C)
      = headNorm (fun l => val_main_v36 (F := Ideal) q k v lam (ix4 b h l T)) (fun l => sub (ix1 l)) e := by
  have i53 : idx_main_v53 (ix2 R C) = ix4 b T h e := funext fun a => Fin.ext (by
    match a with
    | ⟨0, _⟩ => show (R.val * 512 + C.val) / 4194304 = b.val; omega
    | ⟨1, _⟩ => show (R.val * 512 + C.val) / 512 % 8192 = T.val; omega
    | ⟨2, _⟩ => show (R.val * 512 + C.val) / 128 % 4 = h.val; omega
    | ⟨3, _⟩ => show (R.val * 512 + C.val) % 128 = e.val; omega)
  have i39 : ∀ l, idx_main_v39 (idx_main_v40 (idx_main_v46 (ix4 b T h e))) l = ix4 b T h l := fun l => funext fun a => by
    match a with | ⟨0, _⟩ => rfl | ⟨1, _⟩ => rfl | ⟨2, _⟩ => rfl | ⟨3, _⟩ => rfl
  have i48 : idx_main_v48 (idx_main_v49 (ix4 b T h e)) = ix1 e := funext fun a => by
    match a with | ⟨0, _⟩ => rfl
  have z : (val_main_cst_3 (F := Ideal)) (Shape.Idx.first h_S_) = (0 : EReal) := by
    show Ideal.ofBits .f32 0x00000000#32 = 0
    simp [Ideal.ofBits, Ideal.ieee]
  rw [val_main_v54_apply, val_main_v53_apply, i53, val_main_v52_apply, val_main_v50_apply, val_main_v47_apply,
    val_main_v49_apply, val_main_v48_apply, i48, val_main_v46_apply, val_main_v45_apply, val_main_v44_apply,
    val_main_v42_apply, val_main_v40_apply, val_main_v39_apply, z, zero_add]
  simp only [i39, val_main_v38_apply, v37_at]
  rfl

end Cert.KernelIdeal.Whole
-- ==== Proof.DiffAttend.lean ====
module

public import proofs.«01_k».proof.Proof.DiffSweep

/-!
# The softmax and its running form

A row of scores, some of them `−∞`, none `+∞` and at least one real. Its softmax — every weight divided by their sum, the
largest score subtracted first — is real, and the weighted mean taken at any level, over any set of positions that leaves
out only scores of `−∞`, is the mean under that softmax.
-/

@[expose] public section

noncomputable section

namespace Cert.KernelIdeal.Whole

open Idealize.ShloMosaic Idealize.ShloMosaic.ValueIdx
open Cert.KernelIdeal Cert.KernelIdeal.Gen

variable {ι : Type} [Fintype ι] (s : ι → EReal)

/-- The largest score. -/
def rowMax : EReal := max ⊥ ((Finset.univ : Finset ι).fold max ⊥ s)

/-- The softmax of a row. -/
def softmax (j : ι) : EReal := Ideal.div (Ideal.exp (s j - rowMax s)) (∑ x, Ideal.exp (s x - rowMax s))

theorem rowMax_real (hs : ∀ j, s j ≠ ⊤) (j₀ : ι) (h₀ : s j₀ ≠ ⊥) : ∃ m : ℝ, rowMax s = (m : EReal) := by
  have h1 : rowMax s ≠ ⊤ := by
    refine ne_of_lt (max_lt bot_lt_top (Finset.fold_max_lt _ |>.mpr ⟨bot_lt_top, fun x _ => lt_top_iff_ne_top.mpr (hs x)⟩))
  have h2 : rowMax s ≠ ⊥ := by
    have : s j₀ ≤ rowMax s := le_max_of_le_right ((Finset.le_fold_max _).mpr (.inr ⟨j₀, Finset.mem_univ _, le_rfl⟩))
    intro e
    exact h₀ (le_bot_iff.mp (e ▸ this))
  exact ⟨(rowMax s).toReal, (EReal.coe_toReal h1 h2).symm⟩

theorem wt_nonneg (x : EReal) (hx : x ≠ ⊤) (μ : ℝ) : 0 ≤ wt x μ := by
  induction x with
  | bot => rw [wt_bot]
  | coe x => rw [wt_coe]; exact (Real.exp_pos _).le
  | top => exact absurd rfl hx

theorem wt_pos (x : EReal) (hx : x ≠ ⊤) (hb : x ≠ ⊥) (μ : ℝ) : 0 < wt x μ := by
  induction x with
  | bot => exact absurd rfl hb
  | coe x => rw [wt_coe]; exact Real.exp_pos _
  | top => exact absurd rfl hx

theorem div_real (a z : ℝ) (hz : z ≠ 0) : Ideal.div (a : EReal) (z : EReal) = ((a / z : ℝ) : EReal) := by
  have : (z : EReal) ≠ 0 := by exact_mod_cast hz
  rw [Ideal.div, if_neg this, ← EReal.coe_inv, ← EReal.coe_mul, div_eq_mul_inv]

/-- The weighted mean at any level is the mean under the softmax. -/
theorem attend (hs : ∀ j, s j ≠ ⊤) (j₀ : ι) (h₀ : s j₀ ≠ ⊥) :
    ∃ P : ι → ℝ, (∀ j, softmax s j = (P j : EReal)) ∧
      ∀ (B : Finset ι), (∀ j, j ∉ B → s j = ⊥) → ∀ (μ : ℝ) (v w : ι → ℝ), (∀ j, w j = 1) →
        Ideal.div ((∑ j ∈ B, wt (s j) μ * v j : ℝ) : EReal) ((∑ j ∈ B, wt (s j) μ * w j : ℝ) : EReal)
          = ((∑ j, P j * v j : ℝ) : EReal) := by
  obtain ⟨m, hm⟩ := rowMax_real s hs j₀ h₀
  have hZ : 0 < ∑ x, wt (s x) m :=
    Finset.sum_pos' (fun x _ => wt_nonneg _ (hs x) m) ⟨j₀, Finset.mem_univ _, wt_pos _ (hs j₀) h₀ m⟩
  refine ⟨fun j => wt (s j) m / ∑ x, wt (s x) m, fun j => ?_, fun B hB μ v w hw => ?_⟩
  · unfold softmax
    simp only [hm, exp_sub_real _ (hs _), ← coe_sum]
    exact div_real _ _ hZ.ne'
  · have key : ∀ u : ι → ℝ, ∑ j ∈ B, wt (s j) μ * u j = Real.exp (m - μ) * ∑ j, wt (s j) m * u j := by
      intro u
      rw [Finset.mul_sum]
      refine (Finset.sum_subset (Finset.subset_univ B) fun j _ hj => ?_).trans (Finset.sum_congr rfl fun j _ => ?_)
      · rw [hB j hj, wt_bot, zero_mul]
      · rw [← mul_assoc, wt_rescale _ (hs j)]
    have hw' : ∑ j, wt (s j) m * w j = ∑ j, wt (s j) m := Finset.sum_congr rfl fun j _ => by rw [hw, mul_one]
    have hE := (Real.exp_pos (m - μ)).ne'
    rw [key, key, hw', div_real _ _ (mul_ne_zero hE hZ.ne'), mul_div_mul_left _ _ hE, Finset.sum_div]
    refine congrArg _ (Finset.sum_congr rfl fun j _ => ?_)
    ring

end Cert.KernelIdeal.Whole
-- ==== Proof.DiffEntry.lean ====
module

public import proofs.«01_k».proof.Proof.DiffOut
public import proofs.«01_k».proof.Proof.DiffRef
public import proofs.«01_k».proof.Proof.DiffAttend

/-! The blocks of a grid point and the two ends of its computation, entry by entry, against the reference's rows. -/

@[expose] public section

set_option maxRecDepth 16384

noncomputable section

namespace Cert.KernelIdeal.Whole

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- A query row as a row of the first map, and of the second. -/
def upper (r : Fin 256) : Fin 512 := ⟨r.val, by omega⟩
def lower (r : Fin 256) : Fin 512 := ⟨256 + r.val, by omega⟩

/-- What a point stores: the difference of the two normalised sums, over its root mean square. -/
theorem pay1_at (A B : FVec Ideal S512x128 .f32) (x0 x1 : FVec Ideal S1x128 .f32) (r : Fin 256) (e : Fin 128) :
    k0_pay1 (F := Ideal) A B x0 x1 (ix2 r e)
      = headNorm (fun l => Ideal.div (A (ix2 (upper r) l)) (B (ix2 (upper r) l))
          - x0 (ix2 0 l) * Ideal.div (A (ix2 (lower r) l)) (B (ix2 (lower r) l))) (fun l => x1 (ix2 0 l)) e := by
  pointwise [k0_pay1]
  rfl

/-- Which half of the lanes a row of a group keeps. -/
theorem pay64_at (x : FVec Ideal S256x128 .bf16) (g : Fin 4) (r : Fin 128) (l : Fin 128) :
    k0_pay64 (F := Ideal) x (ix2 (row g r) l)
      = if (l.val < 64 ↔ g.val < 2) then x (ix2 (⟨(128 * g.val + r.val) % 256, by omega⟩ : Fin 256) l) else 0 := by
  have hr := r.isLt
  have hl := l.isLt
  unfold row
  pointwise [k0_pay64]
  rw [(by decide +kernel : ∀ l : Fin 128, IntOp.cmpi .slt (BitVec.ofNat 32 l.val) 64#32 = if l.val < 64 then 1#1 else 0#1) l,
    (by decide +kernel : ∀ l : Fin 128, IntOp.cmpi .sge (BitVec.ofNat 32 l.val) 64#32 = if l.val < 64 then 0#1 else 1#1) l]
  have hg := g.isLt
  by_cases h : g.val < 2
  · have e : (128 * g.val + r.val) % 256 = 128 * g.val + r.val := by omega
    rw [dif_pos (by omega)]
    by_cases hl' : l.val < 64 <;> simp [h, hl', e, Scalar.select]
  · have e : (128 * g.val + r.val) % 256 = 128 * g.val + r.val - 256 := by omega
    rw [dif_neg (by omega)]
    by_cases hl' : l.val < 64 <;> simp [h, hl', e, Scalar.select]

theorem places : ∀ t : Fin cfg0.N, win0_0.index t = ![0, 0] ∧ win0_1.index t = ![0, 0]
    ∧ win0_2.index t = ![t.val / 128 * 32 + t.val % 32, t.val / 32 % 4] ∧ win0_3.index t = ![t.val / 128, t.val / 32 % 4]
    ∧ win0_4.index t = ![t.val / 128, t.val / 32 % 4]
    ∧ win0_5.index t = ![t.val / 128 * 32 + t.val % 32, t.val / 32 % 4] ∧ (grid0.coords t 2).val = t.val % 32 :=
  (by decide +kernel : ∀ t : Fin grid0.N, _)

theorem lam_at (c : Dev nD) (t : Fin cfg0.N) (l : Fin 128) :
    iblk m c 0 t (ix2 (0 : Fin 1) l) = m ((c : Thread nD τ).loc main_arg3) (ix1 (0 : Fin 1)) := by
  blk_point [iblk, V, places t]

theorem gain_at (c : Dev nD) (t : Fin cfg0.N) (l : Fin 128) :
    iblk m c 1 t (ix2 (0 : Fin 1) l) = m ((c : Thread nD τ).loc main_arg4) (ix1 l) := by
  blk_point [iblk, V, places t]

variable (t : Fin cfg0.N) (b : Fin 2) (h : Fin 4) (n : Fin 32)

theorem query_at (c : Dev nD) (hb : t.val / 128 = b.val) (hh : t.val / 32 % 4 = h.val) (hn : t.val % 32 = n.val)
    (r : Fin 256) (l : Fin 128) :
    iblk m c 2 t (ix2 r l)
      = m ((c : Thread nD τ).loc main_arg0) (ix2 (flatRow b ⟨256 * n.val + r.val, by omega⟩) (headLane h l)) := by
  unfold flatRow headLane
  blk_point [iblk, V, places t]

theorem key_at (c : Dev nD) (hb : t.val / 128 = b.val) (hh : t.val / 32 % 4 = h.val) (j : Fin 8192) (l : Fin 128) :
    X0_3 m c t (ix2 j l) = m ((c : Thread nD τ).loc main_arg1) (ix2 (flatRow b j) (headLane h l)) := by
  unfold X0_3 Pipeline.Window.fill
  rw [dif_pos (moved0_3 t _)]
  unfold flatRow headLane
  blk_point [iblk, V, places t]

theorem value_at (c : Dev nD) (hb : t.val / 128 = b.val) (hh : t.val / 32 % 4 = h.val) (j : Fin 8192) (l : Fin 128) :
    X0_4 m c t (ix2 j l) = m ((c : Thread nD τ).loc main_arg2) (ix2 (flatRow b j) (headLane h l)) := by
  unfold X0_4 Pipeline.Window.fill
  rw [dif_pos (moved0_4 t _)]
  unfold flatRow headLane
  blk_point [iblk, V, places t]

/-- An absolute value below `+∞` is of a real. -/
theorem real_of_abs (x : EReal) (hx : BitVec.ofBool (decide ((FloatOps.absf (F := Ideal) (φ := .f32) x : EReal)
    < Ideal.ofBits .f32 0x7F800000#32)) = 1#1) : x ≠ ⊤ ∧ x ≠ ⊥ := by
  have ht : Ideal.ofBits .f32 0x7F800000#32 = (⊤ : EReal) := by simp [Ideal.ofBits, Ideal.ieee]
  have h : max x (-x) < (⊤ : EReal) := by
    rw [ht] at hx
    by_contra hc
    have hd : decide ((FloatOps.absf (F := Ideal) (φ := .f32) x : EReal) < ⊤) = false := decide_eq_false hc
    rw [hd] at hx
    exact absurd hx (by decide)
  refine ⟨fun e => ?_, fun e => ?_⟩
  · subst e; exact absurd h (by simp)
  · subst e; exact absurd h (by simp)

/-- The precondition of an operand, at a row of a sequence and a lane of a head. -/
theorem finite_of (x : FVec Ideal S16896x1024 .bf16) (hs : S16896x1024.Slices ![0, 0] Cert.ReferenceIdeal.S16384x512) (hb)
    (hc : (⟨0, ![]⟩ : Shape).BroadcastsInDim Cert.ReferenceIdeal.S16384x512 (![] : Fin 0 → Fin Cert.ReferenceIdeal.S16384x512.rank))
    (hx : cmpf .olt (Host.absf (extf .f32 (extractStridedSlice Cert.ReferenceIdeal.S16384x512 ![0, 0] x hs) hb))
      (broadcastInDim Cert.ReferenceIdeal.S16384x512 ![] hc (constant (F := Ideal) ⟨0, ![]⟩ .f32 0x7F800000#32)) = fun _ => 1#1)
    (b : Fin 2) (T : Fin 8192) (h : Fin 4) (e : Fin 128) :
    x (ix2 (flatRow b T) (headLane h e)) ≠ (⊤ : EReal) ∧ x (ix2 (flatRow b T) (headLane h e)) ≠ (⊥ : EReal) := by
  have := congrFun hx (ix2 (⟨8192 * b.val + T.val, by omega⟩ : Fin 16384) (⟨128 * h.val + e.val, by omega⟩ : Fin 512))
  revert this
  pointwise []
  exact real_of_abs _

end Cert.KernelIdeal.Whole
-- ==== Proof.Diff.lean ====
module

public import proofs.«01_k».proof.Proof.DiffEntry

/-! The differential attention: the array after the run is the reference's result. -/

@[expose] public section

set_option maxRecDepth 16384

noncomputable section

namespace Cert.KernelIdeal.Whole

open Idealize.ShloMosaic Idealize.ShloMosaic.TcCoe Idealize.SL.Sem
open Idealize.ShloMosaic.Pipeline (Dat)
open Cert.KernelIdeal Cert.KernelIdeal.Gen

/-- A sum of products of reals is real. -/
theorem dot_real {n : Nat} (x y : Fin n → EReal) (hx : ∀ l, x l ≠ ⊤ ∧ x l ≠ ⊥) (hy : ∀ l, y l ≠ ⊤ ∧ y l ≠ ⊥) :
    ∑ l, x l * y l ≠ ⊤ ∧ ∑ l, x l * y l ≠ ⊥ := by
  have e : ∑ l, x l * y l = ((∑ l, (x l).toReal * (y l).toReal : ℝ) : EReal) := by
    rw [coe_sum]
    refine Finset.sum_congr rfl fun l _ => ?_
    rw [EReal.coe_mul, EReal.coe_toReal (hx l).1 (hx l).2, EReal.coe_toReal (hy l).1 (hy l).2]
  rw [e]
  exact ⟨EReal.coe_ne_top _, EReal.coe_ne_bot _⟩

/-- A product over all the lanes, one half of them zeroed, is the product over the other half. -/
theorem sum_half (c : Fin 2) (x y : Fin 128 → EReal) :
    ∑ l : Fin 128, (if (l.val < 64 ↔ c.val < 1) then x l else 0) * y l
      = ∑ l : Fin 64, x ⟨64 * c.val + l.val, by omega⟩ * y ⟨64 * c.val + l.val, by omega⟩ := by
  rw [show (∑ l : Fin 128, (if (l.val < 64 ↔ c.val < 1) then x l else 0) * y l)
      = ∑ l : Fin (64 + 64), (if (l.val < 64 ↔ c.val < 1) then x l else 0) * y l from rfl, Fin.sum_univ_add]
  match c with
  | ⟨0, _⟩ =>
    refine (congrArg₂ (· + ·) (Finset.sum_congr rfl fun l _ => ?_) (Finset.sum_eq_zero fun l _ => ?_)).trans (add_zero _)
    · have : (Fin.castAdd 64 l).val < 64 := l.isLt
      rw [if_pos (by simp)]
      have e : Fin.castAdd 64 l = (⟨64 * 0 + l.val, by omega⟩ : Fin 128) := Fin.ext (by simp)
      rw [e]
    · have : ¬ (Fin.natAdd 64 l).val < 64 := by simp
      rw [if_neg (by simp), zero_mul]
  | ⟨1, _⟩ =>
    refine (congrArg₂ (· + ·) (Finset.sum_eq_zero fun l _ => ?_) (Finset.sum_congr rfl fun l _ => ?_)).trans (zero_add _)
    · rw [if_neg (by simp), zero_mul]
    · rw [if_pos (by simp)]
      have e : Fin.natAdd 64 l = (⟨64 * 1 + l.val, by omega⟩ : Fin 128) := Fin.ext (by simp; omega)
      rw [e]

variable (m : (ℓ : Loc nD τ sig) → Buf (Elt Ideal) ℓ)

/-- What is asked of the operands: the rows and lanes read are real, and so is λ. -/
structure Finite (c : Dev nD) : Prop where
  q : ∀ b T h e, m ((c : Thread nD τ).loc main_arg0) (ix2 (flatRow b T) (headLane h e)) ≠ (⊤ : EReal)
    ∧ m ((c : Thread nD τ).loc main_arg0) (ix2 (flatRow b T) (headLane h e)) ≠ (⊥ : EReal)
  k : ∀ b T h e, m ((c : Thread nD τ).loc main_arg1) (ix2 (flatRow b T) (headLane h e)) ≠ (⊤ : EReal)
    ∧ m ((c : Thread nD τ).loc main_arg1) (ix2 (flatRow b T) (headLane h e)) ≠ (⊥ : EReal)
  v : ∀ b T h e, m ((c : Thread nD τ).loc main_arg2) (ix2 (flatRow b T) (headLane h e)) ≠ (⊤ : EReal)
    ∧ m ((c : Thread nD τ).loc main_arg2) (ix2 (flatRow b T) (headLane h e)) ≠ (⊥ : EReal)
  lam : m ((c : Thread nD τ).loc main_arg3) (ix1 (0 : Fin 1)) ≠ (⊤ : EReal)
    ∧ m ((c : Thread nD τ).loc main_arg3) (ix1 (0 : Fin 1)) ≠ (⊥ : EReal)

variable (c : Dev nD) (t : Fin cfg0.N) (b : Fin 2) (h : Fin 4) (n : Fin 32)

/-- The kernel's score of a row and a key is the reference's, of the row's map and query. -/
theorem score_at (hb : t.val / 128 = b.val) (hh : t.val / 32 % 4 = h.val) (hn : t.val % 32 = n.val)
    (g : Fin 4) (r : Fin 128) (T : Fin 8192) (hT : T.val = 256 * n.val + (128 * g.val + r.val) % 256)
    (c' : Fin 2) (hc : c'.val = g.val / 2) (j : Fin 8192) :
    score n (k0_pay64 (iblk m c 2 t)) (X0_3 m c t) g r j
      = refScore (m ((c : Thread nD τ).loc main_arg0)) (m ((c : Thread nD τ).loc main_arg1)) b h c' T j := by
  unfold score refScore
  rw [← hT]
  refine if_congr Iff.rfl ?_ rfl
  simp only [pay64_at, query_at m t b h n c hb hh hn, key_at m t b h c hb hh]
  have e2 : g.val < 2 ↔ c'.val < 1 := by omega
  simp only [e2]
  rw [sum_half]
  refine Finset.sum_congr rfl fun l _ => ?_
  have eT : (⟨256 * n.val + (128 * g.val + r.val) % 256, by omega⟩ : Fin 8192) = T := Fin.ext hT.symm
  have eL : headLane h ⟨64 * c'.val + l.val, by omega⟩ = mapLane h c' l := Fin.ext (by
    show 128 * h.val + (64 * c'.val + l.val) = 128 * h.val + 64 * c'.val + l.val; omega)
  rw [eL, eT]

/-- The reference's scores: never `+∞`, and the query's own is real. -/
theorem refScore_real (q k : FVec Ideal S16896x1024 .bf16)
    (hq : ∀ T e, q (ix2 (flatRow b T) (headLane h e)) ≠ (⊤ : EReal) ∧ q (ix2 (flatRow b T) (headLane h e)) ≠ (⊥ : EReal))
    (hk : ∀ T e, k (ix2 (flatRow b T) (headLane h e)) ≠ (⊤ : EReal) ∧ k (ix2 (flatRow b T) (headLane h e)) ≠ (⊥ : EReal))
    (T : Fin 8192) (c' : Fin 2) : (∀ j, refScore q k b h c' T j ≠ ⊤) ∧ refScore q k b h c' T T ≠ ⊥ := by
  have key : ∀ j, ∑ l : Fin 64, q (ix2 (flatRow b T) (mapLane h c' l)) * k (ix2 (flatRow b j) (mapLane h c' l)) ≠ (⊤ : EReal)
      ∧ ∑ l : Fin 64, q (ix2 (flatRow b T) (mapLane h c' l)) * k (ix2 (flatRow b j) (mapLane h c' l)) ≠ (⊥ : EReal) := by
    intro j
    have eL : ∀ l : Fin 64, mapLane h c' l = headLane h ⟨64 * c'.val + l.val, by omega⟩ := fun l => Fin.ext (by
      show 128 * h.val + 64 * c'.val + l.val = 128 * h.val + (64 * c'.val + l.val); omega)
    exact dot_real (fun l => q (ix2 (flatRow b T) (mapLane h c' l))) (fun l => k (ix2 (flatRow b j) (mapLane h c' l)))
      (fun l => by rw [eL]; exact hq T _) (fun l => by rw [eL]; exact hk j _)
  constructor
  · intro j
    unfold refScore
    split
    · exact (key j).1
    · exact bot_ne_top
  · unfold refScore
    rw [if_pos le_rfl]
    exact (key T).2

theorem refProb_eq (q k : FVec Ideal S16896x1024 .bf16) (c' : Fin 2) (T j : Fin 8192) :
    refProb q k b h c' T j = softmax (refScore q k b h c' T) j := by
  unfold refProb softmax
  rw [refMax_eq]
  rfl

/-- What a point stores is the reference's result at the block's place. -/
theorem stored (hF : Finite m c) (hb : t.val / 128 = b.val) (hh : t.val / 32 % 4 = h.val) (hn : t.val % 32 = n.val)
    (r : Fin 256) (e : Fin 128) (R : Fin 16384) (C : Fin 512)
    (hR : R.val = 8192 * b.val + (256 * n.val + r.val)) (hC : C.val = 128 * h.val + e.val) :
    outsAt0 m c t (ix2 r e)
      = Cert.ReferenceIdeal.Read.val_main_v54 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 R C) := by
  have htile : tile t = n := Fin.ext ((places t).2.2.2.2.2.2.trans hn)
  have hV : ∀ y, (X0_4 m c t) y ≠ (⊤ : EReal) ∧ (X0_4 m c t) y ≠ (⊥ : EReal) := by
    intro y
    obtain ⟨j, l, rfl⟩ : ∃ (j : Fin 8192) (l : Fin 128), y = ix2 j l := ⟨y 0, y 1, eq_ix2 y⟩
    rw [value_at m t b h c hb hh]
    exact hF.v b j h l
  obtain ⟨X, hX, hsum⟩ := outs_at m c t (fun g r j => dot_real _ _
    (fun l => by
      rw [pay64_at, query_at m t b h n c hb hh hn]
      split
      · exact hF.q b _ h l
      · exact ⟨EReal.zero_ne_top, EReal.zero_ne_bot⟩)
    (fun l => by rw [key_at m t b h c hb hh]; exact hF.k b j h l)) hV
  let T : Fin 8192 := ⟨256 * n.val + r.val, by omega⟩
  rw [v54_at _ _ _ _ _ b T h e R C hR hC, hX, pay1_at]
  have hlam : ∃ la : ℝ, m ((c : Thread nD τ).loc main_arg3) (ix1 (0 : Fin 1)) = (la : EReal) :=
    ⟨_, (EReal.coe_toReal hF.lam.1 hF.lam.2).symm⟩
  obtain ⟨la, hla⟩ := hlam
  -- one map: its normalised sum is the mean of the values under the reference's softmax
  have map : ∀ c' : Fin 2, ∃ P : Fin 8192 → ℝ,
      (∀ j, refProb (m ((c : Thread nD τ).loc main_arg0)) (m ((c : Thread nD τ).loc main_arg1)) b h c' T j = (P j : EReal)) ∧
      ∀ (w : Fin 512), w.val = 256 * c'.val + r.val → ∀ l : Fin 128,
        Ideal.div (X (ix2 w (⟨l.val, by omega⟩ : Fin 256))) (X (ix2 w (⟨128 + l.val, by omega⟩ : Fin 256)))
          = ((∑ j, P j * (X0_4 m c t (ix2 j l) : EReal).toReal : ℝ) : EReal) := by
    intro c'
    obtain ⟨hs1, hs2⟩ := refScore_real b h _ _ (fun T e => hF.q b T h e) (fun T e => hF.k b T h e) T c'
    obtain ⟨P, hP, hdiv⟩ := attend _ hs1 T hs2
    refine ⟨P, fun j => (refProb_eq b h _ _ c' T j).trans (hP j), fun w hw l => ?_⟩
    let g : Fin 4 := ⟨2 * c'.val + r.val / 128, by omega⟩
    let r' : Fin 128 := ⟨r.val % 128, by omega⟩
    have ew : w = row g r' := Fin.ext (by
      show w.val = 128 * (2 * c'.val + r.val / 128) + r.val % 128
      omega)
    have hT : T.val = 256 * n.val + (128 * g.val + r'.val) % 256 := by
      show 256 * n.val + r.val = 256 * n.val + (128 * (2 * c'.val + r.val / 128) + r.val % 128) % 256
      omega
    obtain ⟨μ, hμ⟩ := hsum g r'
    rw [ew, hμ, hμ, htile]
    simp only [score_at m c t b h n hb hh hn g r' T hT c' (show c'.val = (2 * c'.val + r.val / 128) / 2 by omega)]
    rw [hdiv _ (fun j hj => ?_) μ _ _ (fun j => by unfold valueAt; rw [dif_neg (by show ¬ 128 + l.val < 128; omega)])]
    · refine congrArg _ (Finset.sum_congr rfl fun j _ => ?_)
      unfold valueAt
      rw [dif_pos (show l.val < 128 from l.isLt)]
    · unfold refScore
      rw [if_neg]
      intro hle
      apply hj
      unfold seen
      simp only [Finset.mem_filter, Finset.mem_univ, true_and]
      have : T.val = 256 * n.val + r.val := rfl
      omega
  obtain ⟨P0, hP0, h0⟩ := map 0
  obtain ⟨P1, hP1, h1⟩ := map 1
  refine congrArg₂ (fun o g => headNorm o g e) (funext fun l => ?_) (funext fun l => ?_)
  · rw [v36_at]
    have hvv : ∀ j, m ((c : Thread nD τ).loc main_arg2) (ix2 (flatRow b j) (headLane h l))
        = (((X0_4 m c t (ix2 j l) : EReal).toReal : ℝ) : EReal) := fun j => by
      rw [EReal.coe_toReal (hV _).1 (hV _).2, value_at m t b h c hb hh]
    have hA : ∀ w : Fin 512, View.ld (Val := Elt Ideal) (e' := .f32) X (Rect.unit ![0, 0] ![512, 128] inb_S512x256_S512x128_0_0) (ix2 w l)
        = X (ix2 w (⟨l.val, by omega⟩ : Fin 256)) := fun w => by pointwise []
    have hB : ∀ w : Fin 512, View.ld (Val := Elt Ideal) (e' := .f32) X (Rect.unit ![0, 128] ![512, 128] inb_S512x256_S512x128_0_128) (ix2 w l)
        = X (ix2 w (⟨128 + l.val, by omega⟩ : Fin 256)) := fun w => by pointwise []
    rw [hA, hB, hA, hB, h0 (upper r) (by show r.val = 256 * 0 + r.val; omega), h1 (lower r) (by show 256 + r.val = 256 * 1 + r.val; omega),
      lam_at, hla]
    simp only [hP0, hP1, hvv, ← EReal.coe_mul, ← EReal.coe_sub, ← coe_sum]
    refine congrArg _ ?_
    rw [Finset.mul_sum, ← Finset.sum_sub_distrib]
    exact Finset.sum_congr rfl fun j _ => by ring
  · exact gain_at m c t l

/-- The result array after the run is the reference's result of the argument arrays. -/
theorem result (hF : Finite m c) : (dats m 0 c).arrAt 5 (cfgs 0).N
    = Cert.ReferenceIdeal.Read.val_main_v54 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  obtain ⟨r, e, rfl⟩ : ∃ (r : Fin 256) (e : Fin 128), y = ix2 r e := ⟨y 0, y 1, eq_ix2 y⟩
  have ht : t.val < 256 := t.isLt
  have p5 := (places t).2.2.2.2.2.1
  have e5 : (win0_5.blk t).view.emb (ix2 r e)
      = ix2 (⟨(t.val / 128 * 32 + t.val % 32) * 256 + r.val, by omega⟩ : Fin 16384) (⟨t.val / 32 % 4 * 128 + e.val, by omega⟩ : Fin 512) :=
    funext fun a => Fin.ext (by
      match a with
      | ⟨0, _⟩ =>
        show win0_5.index t 0 * 256 + 1 * r.val = (t.val / 128 * 32 + t.val % 32) * 256 + r.val
        rw [p5]
        show (t.val / 128 * 32 + t.val % 32) * 256 + 1 * r.val = _
        omega
      | ⟨1, _⟩ =>
        show win0_5.index t 1 * 128 + 1 * e.val = t.val / 32 % 4 * 128 + e.val
        rw [p5]
        show t.val / 32 % 4 * 128 + 1 * e.val = _
        omega)
  rw [e5]
  exact stored m c t ⟨t.val / 128, by omega⟩ ⟨t.val / 32 % 4, by omega⟩ ⟨t.val % 32, by omega⟩ hF rfl rfl rfl r e _ _
    (by simp only; omega) (by simp only; omega)

/-- Every run ends with the result array as the pipeline's points leave it, the arguments as launched. -/
theorem run_blocks (ρ : Dev nD → PrngReg) : θ_run defs (onTc (τ := τ) (main (F := Ideal))) ⟨m, fun _ => 0, ρ⟩ (fun r => ∀ c : Dev nD,
      r.2.mem ((c.tc : Thread nD τ).loc main_v3) = (dats m 0 c).arrAt 5 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 5, h.2 c⟩) (θ_run_and (run_main m ρ) (unchanged m ρ))

end Cert.KernelIdeal.Whole
-- ==== Proof.Rotary.lean ====
module

public import Idealize.ShloMosaic.Lib.Pipeline.ValueKit

/-! The rotary embedding of one row of 1024 lanes, 64 lanes a head, in two writings: with the 128-lane tables of cosines
and sines and two rotations of each tile, and head by head. -/

@[expose] public section

noncomputable section

namespace Cert.Rotary

/-- A row whose 128-lane tiles are rotated: each lane times `c`, plus the lane 8 below it in its tile times `l`, plus the
    lane 8 above it in its tile times `h` (both taken round the tile). -/
def turnedRow (P : Fin 1024 → EReal) (c l h : Fin 128 → EReal) (C : Fin 1024) : EReal :=
  P C * c ⟨(C : ℕ) % 128, by omega⟩
    + P ⟨(C : ℕ) / 128 * 128 + ((C : ℕ) % 128 + 128 - 8) % 128, by have := C.isLt; omega⟩ * l ⟨(C : ℕ) % 128, by omega⟩
    + P ⟨(C : ℕ) / 128 * 128 + ((C : ℕ) % 128 + 128 - 120) % 128, by have := C.isLt; omega⟩ * h ⟨(C : ℕ) % 128, by omega⟩

/-- The table of cosines: the first 16 lanes of a head hold the 8 cosines twice, the others 1. -/
def cosTable (cs : Fin 8 → EReal) (l : Fin 128) : EReal :=
  if h : (l : ℕ) % 64 < 8 then cs ⟨(l : ℕ) % 64, h⟩
  else if h' : (l : ℕ) % 64 < 16 then cs ⟨(l : ℕ) % 64 - 8, by omega⟩ else 1

/-- The table of sines for the lane below: lanes 8 to 15 of a head hold the 8 sines, the others 0. -/
def lowTable (sn : Fin 8 → EReal) (l : Fin 128) : EReal :=
  if h : (l : ℕ) % 64 < 8 then 0
  else if h' : (l : ℕ) % 64 < 16 then sn ⟨(l : ℕ) % 64 - 8, by omega⟩ else 0

/-- The table of sines for the lane above: lanes 0 to 7 of a head hold the 8 sines negated, the others 0. -/
def highTable (sn : Fin 8 → EReal) (l : Fin 128) : EReal :=
  if h : (l : ℕ) % 64 < 8 then -sn ⟨(l : ℕ) % 64, h⟩ else 0

/-- The rotary embedding, head by head: lanes `i` and `i + 8` of a head (`i < 8`) are turned by angle `i`, the lanes from 16
    on are kept. -/
def rotaryRow (P : Fin 1024 → EReal) (cs sn : Fin 8 → EReal) (C : Fin 1024) : EReal :=
  if h : (C : ℕ) % 64 < 8 then
    P C * cs ⟨(C : ℕ) % 64, h⟩ - P ⟨(C : ℕ) + 8, by have := C.isLt; omega⟩ * sn ⟨(C : ℕ) % 64, h⟩
  else if h' : (C : ℕ) % 64 < 16 then
    P C * cs ⟨(C : ℕ) % 64 - 8, by omega⟩ + P ⟨(C : ℕ) - 8, by have := C.isLt; omega⟩ * sn ⟨(C : ℕ) % 64 - 8, by omega⟩
  else P C

/-- With those tables the rotated tiles are the rotary embedding. -/
theorem turned_eq (P : Fin 1024 → EReal) (cs sn : Fin 8 → EReal) (C : Fin 1024) :
    turnedRow P (cosTable cs) (lowTable sn) (highTable sn) C = rotaryRow P cs sn C := by
  have hC := C.isLt
  have e : (C : ℕ) % 128 % 64 = (C : ℕ) % 64 := by omega
  unfold turnedRow cosTable lowTable highTable rotaryRow
  simp only [e]
  by_cases h : (C : ℕ) % 64 < 8
  · have e2 : (C : ℕ) / 128 * 128 + ((C : ℕ) % 128 + 128 - 120) % 128 = (C : ℕ) + 8 := by omega
    simp only [h, dite_true, mul_zero, add_zero, e2, mul_neg, sub_eq_add_neg]
  · by_cases h' : (C : ℕ) % 64 < 16
    · have e1 : (C : ℕ) / 128 * 128 + ((C : ℕ) % 128 + 128 - 8) % 128 = (C : ℕ) - 8 := by omega
      simp only [h, h', dite_true, dite_false, mul_zero, add_zero, e1]
    · simp only [h, h', dite_false, mul_zero, add_zero, mul_one]

end Cert.Rotary

end
-- ==== Proof.Qkv.lean ====
module

public import proofs.«01_k».proof.Proof.Gen.QkvIdeal.Value
public import proofs.«01_k».proof.Proof.Gen.QkvRefIdeal.Read
public import proofs.«01_k».proof.Proof.Rotary
public import Idealize.ShloMosaic.Lib.Pipeline.ValueKit
public import Idealize.ShloMosaic.Lib.StableHlo.RunRead

/-! The query, key and value projections of an odd layer, with the rotary embedding. -/

@[expose] public section

set_option maxRecDepth 16384

noncomputable section

namespace Cert.QkvIdeal.Whole

open Idealize.ShloMosaic Idealize.ShloMosaic.TcCoe Idealize.SL.Sem
open Idealize.ShloMosaic.Pipeline (Dat)
open Cert.QkvIdeal Cert.QkvIdeal.Gen Cert.Rotary

variable (m : (ℓ : Loc nD τ sig) → Buf (Elt Ideal) ℓ)

/-! ## What a grid point stores -/

section
variable (x0 : Vec Ideal S512x1024 .f32) (x1 : Vec Ideal S1x1024 .f32) (x2 : Vec Ideal S1024x3072 .bf16)
  (x3 x4 x5 : Vec Ideal S512x128 .f32) (y : S512x1024.Idx)

/-- A block's row, its tiles rotated. -/
abbrev turned (A : FVec Ideal S512x1024 .f32) (T L H : FVec Ideal S512x128 .f32) (r : Fin 512) (C : Fin 1024) : EReal :=
  turnedRow (fun k => A (ix2 r k)) (fun l => T (ix2 r l)) (fun l => L (ix2 r l)) (fun l => H (ix2 r l)) C

/-- The stored keys are the projected keys, rotated. -/
theorem keyed : out0_7 x0 x1 x2 x3 x4 x5 y = turned (k0_pay46 x0 x1 x2 x3 x4 x5) x3 x4 x5 (y 0) (y 1) := by
  unfold_out out0_7
  canon_tiles x h
  all_goals (open_payloads)
  all_goals (pointwise [turnedRow])
  all_goals blk_point []

/-- The keys stored in 16 bits are the projected keys, rotated. -/
theorem keyed16 : out0_9 x0 x1 x2 x3 x4 x5 y = turned (k0_pay46 x0 x1 x2 x3 x4 x5) x3 x4 x5 (y 0) (y 1) := by
  unfold_out out0_9
  canon_tiles x h
  all_goals (open_payloads)
  all_goals (pointwise [turnedRow])
  all_goals blk_point []

/-- The stored queries are the projected queries, rotated and scaled. -/
theorem queried : out0_6 x0 x1 x2 x3 x4 x5 y
    = turned (k0_pay45 x0 x1 x2 x3 x4 x5) x3 x4 x5 (y 0) (y 1) * FloatOps.ofBits (F := Ideal) .f32 0x3E000000#32 := by
  unfold_out out0_6
  canon_tiles x h
  all_goals (open_payloads)
  all_goals (pointwise [turnedRow])
  all_goals blk_point []

end

/-! ## The tables -/

/-- The cosines and sines of the reference: one per position and rotated lane. -/
abbrev cosRef (c : Dev nD) := Cert.QkvRefIdeal.Read.val_main_v30 (F := Ideal) (m ((c : Thread nD τ).loc main_arg3))
abbrev sinRef (c : Dev nD) := Cert.QkvRefIdeal.Read.val_main_v32 (F := Ideal) (m ((c : Thread nD τ).loc main_arg3))

/-- The host's cosines before they are laid out are the reference's. -/
theorem cos_made (c : Dev nD) : StableHlo.upto hostOps0 (fun b => m (c, b)) 25 (Proc.tc.devRef main_v14) = cosRef m c := by
  after_reads_simp
  rfl

/-- The host's table of cosines is `cosTable` of the reference's cosines. -/
theorem cosines (c : Dev nD) (R : Fin 16896) (l : Fin 128) (z : FVec Ideal S16896x128 .f32) (hz : z = V m c main_v26) :
   z (ix2 R l) = cosTable (fun i => cosRef m c (ix2 R i)) l := by
  rw [hz]
  show StableHlo.after hostOps0 (fun b => m (c, b)) (Proc.tc.devRef main_v26) (ix2 R l) = _
  after_reads_simp
  unfold cosTable
  by_cases h : (l : ℕ) % 64 < 8
  · pointwise [h]
    exact congrFun (cos_made m c) _
  · by_cases h' : (l : ℕ) % 64 < 16
    · have h2 : (l : ℕ) % 64 - 8 < 8 := by omega
      pointwise [h, h', h2]
      exact congrFun (cos_made m c) _
    · have h2 : ¬ (l : ℕ) % 64 - 8 < 8 := by omega
      pointwise [h, h', h2]
      after_reads_simp
      pointwise

/-- The host's table for the lane below is `lowTable` of the reference's sines. -/
theorem lows (c : Dev nD) (R : Fin 16896) (l : Fin 128) (z : FVec Ideal S16896x128 .f32) (hz : z = V m c main_v29) :
   z (ix2 R l) = lowTable (fun i => sinRef m c (ix2 R i)) l := by
  rw [hz]
  show StableHlo.after hostOps0 (fun b => m (c, b)) (Proc.tc.devRef main_v29) (ix2 R l) = _
  after_reads_simp
  unfold lowTable
  by_cases h : (l : ℕ) % 64 < 8
  · pointwise [h]
    after_reads_simp
    pointwise
  · by_cases h' : (l : ℕ) % 64 < 16
    · have h2 : (l : ℕ) % 64 - 8 < 8 := by omega
      pointwise [h, h', h2]
      after_reads_simp
      rfl
    · have h2 : ¬ (l : ℕ) % 64 - 8 < 8 := by omega
      pointwise [h, h', h2]
      after_reads_simp
      pointwise

/-- The host's table for the lane above is `highTable` of the reference's sines. -/
theorem highs (c : Dev nD) (R : Fin 16896) (l : Fin 128) (z : FVec Ideal S16896x128 .f32) (hz : z = V m c main_v32) :
   z (ix2 R l) = highTable (fun i => sinRef m c (ix2 R i)) l := by
  rw [hz]
  show StableHlo.after hostOps0 (fun b => m (c, b)) (Proc.tc.devRef main_v32) (ix2 R l) = _
  after_reads_simp
  unfold highTable
  by_cases h : (l : ℕ) % 64 < 8
  · pointwise [h]
    after_reads_simp
    rfl
  · pointwise [h]
    after_reads_simp
    pointwise
    exact ite_self _

/-! ## The reference -/

section
open Cert.QkvRefIdeal.Read
variable (x : FVec Ideal S16896x1024 .f32) (g : FVec Ideal S1024 .f32) (w : FVec Ideal S1024x3072 .f32)
  (p : (⟨S16896, .i32⟩ : BufTy).Contents (Elt Ideal)) (R : Fin 16896) (C : Fin 1024)

/-- The reference's keys are its projected keys under the rotary embedding. -/
theorem key_ref : val_main_v84 (F := Ideal) x g w p (ix2 R C)
    = rotaryRow (fun k => val_main_v15 (F := Ideal) x g w (ix2 R k)) (fun i => val_main_v65 (F := Ideal) p (ix2 R i))
        (fun i => val_main_v67 (F := Ideal) p (ix2 R i)) C := by
  unfold rotaryRow
  by_cases h : (C : ℕ) % 64 < 8
  · have h2 : (C : ℕ) % 64 < 16 := by omega
    pointwise [h, h2, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v66, val_main_v52]
    blk_point []
  · by_cases h' : (C : ℕ) % 64 < 16
    · pointwise [h, h', val_main_v84, val_main_v83, val_main_v82, val_main_v81, val_main_v80, val_main_v79, val_main_v78, val_main_v77, val_main_v76, val_main_v75, val_main_v74, val_main_v73, val_main_v72, val_main_v71, val_main_v70, val_main_v69, val_main_v68, val_main_v66, val_main_v52]
      blk_point []
    · pointwise [h, h', val_main_v84, val_main_v83, val_main_v82, val_main_v81, val_main_v80, val_main_v79, val_main_v78, val_main_v77, val_main_v76, val_main_v75, val_main_v74, val_main_v73, val_main_v72, val_main_v71, val_main_v70, val_main_v69, val_main_v68, val_main_v66, val_main_v52]
      blk_point []

/-- The reference's queries are its projected queries under the rotary embedding, scaled. -/
theorem query_ref : val_main_v85 (F := Ideal) x g w p (ix2 R C)
    = rotaryRow (fun k => val_main_v14 (F := Ideal) x g w (ix2 R k)) (fun i => val_main_v30 (F := Ideal) p (ix2 R i))
        (fun i => val_main_v32 (F := Ideal) p (ix2 R i)) C * FloatOps.ofBits (F := Ideal) .f32 0x3E000000#32 := by
  unfold rotaryRow
  by_cases h : (C : ℕ) % 64 < 8
  · have h2 : (C : ℕ) % 64 < 16 := by omega
    pointwise [h, h2, val_main_v85, val_main_v51, val_main_v50, val_main_cst_4, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v31, val_main_v17]
    blk_point []
  · by_cases h' : (C : ℕ) % 64 < 16
    · pointwise [h, h', val_main_v85, val_main_v51, val_main_v50, val_main_cst_4, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v31, val_main_v17]
      blk_point []
    · pointwise [h, h', val_main_v85, val_main_v51, val_main_v50, val_main_cst_4, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v31, val_main_v17]
      blk_point []

end

/-- Where each window's block sits, for every grid point. -/
theorem places : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

/-- Where row `r` of grid point `t`'s block sits in the arrays. -/
abbrev row (t : Fin cfg0.N) (r : Fin 512) : Fin 16896 :=
  ⟨t.val * 512 + r.val, by have h : t.val < 33 := t.isLt; have := r.isLt; omega⟩

/-- The keys projected at a grid point are the reference's. -/
theorem keys_at (c : Dev nD) (t : Fin cfg0.N) (r : Fin 512) (C : Fin 1024) :
    k0_pay46 (iblk m c 0 t) (iblk m c 1 t) (iblk m c 2 t) (iblk m c 3 t) (iblk m c 4 t) (iblk m c 5 t) (ix2 r C)
      = Cert.QkvRefIdeal.Read.val_main_v15 (F := Ideal) (m ((c : Thread nD τ).loc main_arg0)) (m ((c : Thread nD τ).loc main_arg1))
          (m ((c : Thread nD τ).loc main_arg2)) (ix2 (row t r) C) := by
  pointwise [k0_pay46, k0_pay6, k0_pay1, Cert.QkvRefIdeal.Read.val_main_v15, Cert.QkvRefIdeal.Read.val_main_v13, Cert.QkvRefIdeal.Read.val_main_v12, Cert.QkvRefIdeal.Read.val_main_v11, Cert.QkvRefIdeal.Read.val_main_v10, Cert.QkvRefIdeal.Read.val_main_v9, Cert.QkvRefIdeal.Read.val_main_v8, Cert.QkvRefIdeal.Read.val_main_v7, Cert.QkvRefIdeal.Read.val_main_v6, Cert.QkvRefIdeal.Read.val_main_v5, Cert.QkvRefIdeal.Read.val_main_cst_1, Cert.QkvRefIdeal.Read.val_main_v4, Cert.QkvRefIdeal.Read.val_main_v3, Cert.QkvRefIdeal.Read.val_main_cst_0, Cert.QkvRefIdeal.Read.val_main_v2, Cert.QkvRefIdeal.Read.val_main_v1, Cert.QkvRefIdeal.Read.val_main_cst, Cert.QkvRefIdeal.Read.val_main_v0]
  blk_point [iblk, V, places t]

/-- The queries projected at a grid point are the reference's. -/
theorem queries_at (c : Dev nD) (t : Fin cfg0.N) (r : Fin 512) (C : Fin 1024) :
    k0_pay45 (iblk m c 0 t) (iblk m c 1 t) (iblk m c 2 t) (iblk m c 3 t) (iblk m c 4 t) (iblk m c 5 t) (ix2 r C)
      = Cert.QkvRefIdeal.Read.val_main_v14 (F := Ideal) (m ((c : Thread nD τ).loc main_arg0)) (m ((c : Thread nD τ).loc main_arg1))
          (m ((c : Thread nD τ).loc main_arg2)) (ix2 (row t r) C) := by
  pointwise [k0_pay45, k0_pay5, k0_pay1, Cert.QkvRefIdeal.Read.val_main_v14, Cert.QkvRefIdeal.Read.val_main_v13, Cert.QkvRefIdeal.Read.val_main_v12, Cert.QkvRefIdeal.Read.val_main_v11, Cert.QkvRefIdeal.Read.val_main_v10, Cert.QkvRefIdeal.Read.val_main_v9, Cert.QkvRefIdeal.Read.val_main_v8, Cert.QkvRefIdeal.Read.val_main_v7, Cert.QkvRefIdeal.Read.val_main_v6, Cert.QkvRefIdeal.Read.val_main_v5, Cert.QkvRefIdeal.Read.val_main_cst_1, Cert.QkvRefIdeal.Read.val_main_v4, Cert.QkvRefIdeal.Read.val_main_v3, Cert.QkvRefIdeal.Read.val_main_cst_0, Cert.QkvRefIdeal.Read.val_main_v2, Cert.QkvRefIdeal.Read.val_main_v1, Cert.QkvRefIdeal.Read.val_main_cst, Cert.QkvRefIdeal.Read.val_main_v0]
  blk_point [iblk, V, places t]

/-- A grid point's block of each table, in the reference's cosines and sines. -/
theorem cos_block (c : Dev nD) (t : Fin cfg0.N) (r : Fin 512) (l : Fin 128) :
    (iblk m c 3 t : FVec Ideal S512x128 .f32) (ix2 r l) = cosTable (fun i => cosRef m c (ix2 (row t r) i)) l := by
  rw [← cosines m c (row t r) l _ rfl]
  blk_ext [iblk, places t]
theorem low_block (c : Dev nD) (t : Fin cfg0.N) (r : Fin 512) (l : Fin 128) :
    (iblk m c 4 t : FVec Ideal S512x128 .f32) (ix2 r l) = lowTable (fun i => sinRef m c (ix2 (row t r) i)) l := by
  rw [← lows m c (row t r) l _ rfl]
  blk_ext [iblk, places t]
theorem high_block (c : Dev nD) (t : Fin cfg0.N) (r : Fin 512) (l : Fin 128) :
    (iblk m c 5 t : FVec Ideal S512x128 .f32) (ix2 r l) = highTable (fun i => sinRef m c (ix2 (row t r) i)) l := by
  rw [← highs m c (row t r) l _ rfl]
  blk_ext [iblk, places t]

/-- A grid point's rotated keys are the rotary embedding of the reference's projected keys. -/
theorem keys_turned (c : Dev nD) (t : Fin cfg0.N) (r : Fin 512) (C : Fin 1024) :
    turned (k0_pay46 (iblk m c 0 t) (iblk m c 1 t) (iblk m c 2 t) (iblk m c 3 t) (iblk m c 4 t) (iblk m c 5 t))
        (iblk m c 3 t) (iblk m c 4 t) (iblk m c 5 t) r C
      = rotaryRow (fun k => Cert.QkvRefIdeal.Read.val_main_v15 (F := Ideal) (m ((c : Thread nD τ).loc main_arg0))
            (m ((c : Thread nD τ).loc main_arg1)) (m ((c : Thread nD τ).loc main_arg2)) (ix2 (row t r) k))
          (fun i => cosRef m c (ix2 (row t r) i)) (fun i => sinRef m c (ix2 (row t r) i)) C := by
  unfold turned
  rw [funext (keys_at m c t r), funext (cos_block m c t r), funext (low_block m c t r), funext (high_block m c t r)]
  exact turned_eq _ _ _ _

/-- A grid point's rotated queries are the rotary embedding of the reference's projected queries. -/
theorem queries_turned (c : Dev nD) (t : Fin cfg0.N) (r : Fin 512) (C : Fin 1024) :
    turned (k0_pay45 (iblk m c 0 t) (iblk m c 1 t) (iblk m c 2 t) (iblk m c 3 t) (iblk m c 4 t) (iblk m c 5 t))
        (iblk m c 3 t) (iblk m c 4 t) (iblk m c 5 t) r C
      = rotaryRow (fun k => Cert.QkvRefIdeal.Read.val_main_v14 (F := Ideal) (m ((c : Thread nD τ).loc main_arg0))
            (m ((c : Thread nD τ).loc main_arg1)) (m ((c : Thread nD τ).loc main_arg2)) (ix2 (row t r) k))
          (fun i => cosRef m c (ix2 (row t r) i)) (fun i => sinRef m c (ix2 (row t r) i)) C := by
  unfold turned
  rw [funext (queries_at m c t r), funext (cos_block m c t r), funext (low_block m c t r), funext (high_block m c t r)]
  exact turned_eq _ _ _ _

/-! ## The results -/

section
variable (c : Dev nD)

/-- The argument arrays. -/
abbrev X := (m ((c : Thread nD τ).loc main_arg0) : FVec Ideal S16896x1024 .f32)
abbrev Gn := (m ((c : Thread nD τ).loc main_arg1) : FVec Ideal S1024 .f32)
abbrev W := (m ((c : Thread nD τ).loc main_arg2) : FVec Ideal S1024x3072 .f32)
abbrev Ps := (m ((c : Thread nD τ).loc main_arg3) : (⟨S16896, .i32⟩ : BufTy).Contents (Elt Ideal))

/-- Where an index of window 6's block sits in its array. -/
theorem emb6 (t : Fin cfg0.N) (y : S512x1024.Idx) : ((cfg0.win 6).blk t).view.emb y = ix2 (row t (y 0)) (y 1) :=
  funext fun a => Fin.ext (by
    match a with
    | ⟨0, _⟩ => blk_simp [places t]; rfl
    | ⟨1, _⟩ => blk_simp [places t]; rfl)

/-- Where an index of window 7's block sits in its array. -/
theorem emb7 (t : Fin cfg0.N) (y : S512x1024.Idx) : ((cfg0.win 7).blk t).view.emb y = ix2 (row t (y 0)) (y 1) :=
  funext fun a => Fin.ext (by
    match a with
    | ⟨0, _⟩ => blk_simp [places t]; rfl
    | ⟨1, _⟩ => blk_simp [places t]; rfl)

/-- Where an index of window 9's block sits in its array. -/
theorem emb9 (t : Fin cfg0.N) (y : S512x1024.Idx) : ((cfg0.win 9).blk t).view.emb y = ix2 (row t (y 0)) (y 1) :=
  funext fun a => Fin.ext (by
    match a with
    | ⟨0, _⟩ => blk_simp [places t]; rfl
    | ⟨1, _⟩ => blk_simp [places t]; rfl)

/-- The keys after the run are the reference's. -/
theorem stored7 (t : Fin cfg0.N) (y : S512x1024.Idx) :
    out0_7 (iblk m c 0 t) (iblk m c 1 t) (iblk m c 2 t) (iblk m c 3 t) (iblk m c 4 t) (iblk m c 5 t) y
      = Cert.QkvRefIdeal.Read.val_main_v84 (F := Ideal) (X m c) (Gn m c) (W m c) (Ps m c) (((cfg0.win 7).blk t).view.emb y) := by
  refine (keyed _ _ _ _ _ _ y).trans ((keys_turned m c t (y 0) (y 1)).trans ?_)
  rw [emb7]
  exact (key_ref (X m c) (Gn m c) (W m c) (Ps m c) (row t (y 0)) (y 1)).symm

theorem result7 : (dats m 0 c).arrAt 7 (cfgs 0).N = Cert.QkvRefIdeal.Read.val_main_v84 (F := Ideal) (X m c) (Gn m c) (W m c) (Ps m c) := by
  refine (dats m 0 c).arrAt_eq_of_covers 7 _ (by decide +kernel) fun t _ y => ?_
  blk_simp
  rw [after0_7]
  exact stored7 m c t y

/-- The keys in 16 bits after the run are the reference's. -/
theorem stored9 (t : Fin cfg0.N) (y : S512x1024.Idx) :
    out0_9 (iblk m c 0 t) (iblk m c 1 t) (iblk m c 2 t) (iblk m c 3 t) (iblk m c 4 t) (iblk m c 5 t) y
      = Cert.QkvRefIdeal.Read.val_main_v86 (F := Ideal) (X m c) (Gn m c) (W m c) (Ps m c) (((cfg0.win 9).blk t).view.emb y) := by
  refine (keyed16 _ _ _ _ _ _ y).trans ((keys_turned m c t (y 0) (y 1)).trans ?_)
  rw [emb9]
  exact (key_ref (X m c) (Gn m c) (W m c) (Ps m c) (row t (y 0)) (y 1)).symm

theorem result9 : (dats m 0 c).arrAt 9 (cfgs 0).N = Cert.QkvRefIdeal.Read.val_main_v86 (F := Ideal) (X m c) (Gn m c) (W m c) (Ps m c) := by
  refine (dats m 0 c).arrAt_eq_of_covers 9 _ (by decide +kernel) fun t _ y => ?_
  blk_simp
  rw [after0_9]
  exact stored9 m c t y

/-- The queries after the run are the reference's. -/
theorem stored6 (t : Fin cfg0.N) (y : S512x1024.Idx) :
    out0_6 (iblk m c 0 t) (iblk m c 1 t) (iblk m c 2 t) (iblk m c 3 t) (iblk m c 4 t) (iblk m c 5 t) y
      = Cert.QkvRefIdeal.Read.val_main_v85 (F := Ideal) (X m c) (Gn m c) (W m c) (Ps m c) (((cfg0.win 6).blk t).view.emb y) := by
  refine (queried _ _ _ _ _ _ y).trans ?_
  rw [queries_turned m c t (y 0) (y 1), emb6]
  exact (query_ref (X m c) (Gn m c) (W m c) (Ps m c) (row t (y 0)) (y 1)).symm

theorem result6 : (dats m 0 c).arrAt 6 (cfgs 0).N = Cert.QkvRefIdeal.Read.val_main_v85 (F := Ideal) (X m c) (Gn m c) (W m c) (Ps m c) := by
  refine (dats m 0 c).arrAt_eq_of_covers 6 _ (by decide +kernel) fun t _ y => ?_
  blk_simp
  rw [after0_6]
  exact stored6 m c t y

/-- The values after the run are the reference's. -/
theorem stored8 (t : Fin cfg0.N) (y : S512x1024.Idx) :
    out0_8 (iblk m c 0 t) (iblk m c 1 t) (iblk m c 2 t) (iblk m c 3 t) (iblk m c 4 t) (iblk m c 5 t) y
      = Cert.QkvRefIdeal.Read.val_main_v16 (F := Ideal) (X m c) (Gn m c) (W m c) (((cfg0.win 8).blk t).view.emb y) := by
  frame_out
  pointwise [k0_pay47, k0_pay7, k0_pay1, Cert.QkvRefIdeal.Read.val_main_v16, Cert.QkvRefIdeal.Read.val_main_v13, Cert.QkvRefIdeal.Read.val_main_v12, Cert.QkvRefIdeal.Read.val_main_v11, Cert.QkvRefIdeal.Read.val_main_v10, Cert.QkvRefIdeal.Read.val_main_v9, Cert.QkvRefIdeal.Read.val_main_v8, Cert.QkvRefIdeal.Read.val_main_v7, Cert.QkvRefIdeal.Read.val_main_v6, Cert.QkvRefIdeal.Read.val_main_v5, Cert.QkvRefIdeal.Read.val_main_cst_1, Cert.QkvRefIdeal.Read.val_main_v4, Cert.QkvRefIdeal.Read.val_main_v3, Cert.QkvRefIdeal.Read.val_main_cst_0, Cert.QkvRefIdeal.Read.val_main_v2, Cert.QkvRefIdeal.Read.val_main_v1, Cert.QkvRefIdeal.Read.val_main_cst, Cert.QkvRefIdeal.Read.val_main_v0]
  blk_point [iblk, V, places t]

theorem result8 : (dats m 0 c).arrAt 8 (cfgs 0).N = Cert.QkvRefIdeal.Read.val_main_v16 (F := Ideal) (X m c) (Gn m c) (W m c) := by
  refine (dats m 0 c).arrAt_eq_of_covers 8 _ (by decide +kernel) fun t _ y => ?_
  blk_simp
  rw [after0_8]
  exact stored8 m c t y

/-- The values in 16 bits after the run are the reference's. -/
theorem stored10 (t : Fin cfg0.N) (y : S512x1024.Idx) :
    out0_10 (iblk m c 0 t) (iblk m c 1 t) (iblk m c 2 t) (iblk m c 3 t) (iblk m c 4 t) (iblk m c 5 t) y
      = Cert.QkvRefIdeal.Read.val_main_v87 (F := Ideal) (X m c) (Gn m c) (W m c) (((cfg0.win 10).blk t).view.emb y) := by
  frame_out
  pointwise [k0_pay41, k0_pay47, k0_pay7, k0_pay1, Cert.QkvRefIdeal.Read.val_main_v87, Cert.QkvRefIdeal.Read.val_main_v16, Cert.QkvRefIdeal.Read.val_main_v13, Cert.QkvRefIdeal.Read.val_main_v12, Cert.QkvRefIdeal.Read.val_main_v11, Cert.QkvRefIdeal.Read.val_main_v10, Cert.QkvRefIdeal.Read.val_main_v9, Cert.QkvRefIdeal.Read.val_main_v8, Cert.QkvRefIdeal.Read.val_main_v7, Cert.QkvRefIdeal.Read.val_main_v6, Cert.QkvRefIdeal.Read.val_main_v5, Cert.QkvRefIdeal.Read.val_main_cst_1, Cert.QkvRefIdeal.Read.val_main_v4, Cert.QkvRefIdeal.Read.val_main_v3, Cert.QkvRefIdeal.Read.val_main_cst_0, Cert.QkvRefIdeal.Read.val_main_v2, Cert.QkvRefIdeal.Read.val_main_v1, Cert.QkvRefIdeal.Read.val_main_cst, Cert.QkvRefIdeal.Read.val_main_v0]
  blk_point [iblk, V, places t]

theorem result10 : (dats m 0 c).arrAt 10 (cfgs 0).N = Cert.QkvRefIdeal.Read.val_main_v87 (F := Ideal) (X m c) (Gn m c) (W m c) := by
  refine (dats m 0 c).arrAt_eq_of_covers 10 _ (by decide +kernel) fun t _ y => ?_
  blk_simp
  rw [after0_10]
  exact stored10 m c t y

end

end Cert.QkvIdeal.Whole

end
-- ==== Proof.QkvEven.lean ====
module

public import proofs.«01_k».proof.Proof.Gen.QkvEvenIdeal.Value
public import proofs.«01_k».proof.Proof.Gen.QkvEvenRefIdeal.Read
public import proofs.«01_k».proof.Proof.Rotary
public import Idealize.ShloMosaic.Lib.Pipeline.ValueKit
public import Idealize.ShloMosaic.Lib.StableHlo.RunRead

/-! The query, key and value projections of an even layer: the rotary embedding turns the first 512 lanes, the columns of the
weights are laid out anew by the host. -/

@[expose] public section

set_option maxRecDepth 16384

noncomputable section

namespace Cert.QkvEvenIdeal.Whole

open Idealize.ShloMosaic Idealize.ShloMosaic.TcCoe Idealize.SL.Sem
open Idealize.ShloMosaic.Pipeline (Dat)
open Cert.QkvEvenIdeal Cert.QkvEvenIdeal.Gen Cert.Rotary

variable (m : (ℓ : Loc nD τ sig) → Buf (Elt Ideal) ℓ)

/-! ## What a grid point stores -/

section
variable (x0 : Vec Ideal S512x1024 .f32) (x1 : Vec Ideal S1x1024 .f32) (x2 : Vec Ideal S1024x3072 .bf16)
  (x3 x4 x5 : Vec Ideal S512x128 .f32) (y : S512x1024.Idx)

/-- A block's row, the tiles of its first half rotated. -/
abbrev turned (A : FVec Ideal S512x1024 .f32) (T L H : FVec Ideal S512x128 .f32) (r : Fin 512) (C : Fin 1024) : EReal :=
  if (C : ℕ) < 512 then turnedRow (fun k => A (ix2 r k)) (fun l => T (ix2 r l)) (fun l => L (ix2 r l)) (fun l => H (ix2 r l)) C
  else A (ix2 r C)

/-- The stored keys are the projected keys, the first half rotated. -/
theorem keyed : out0_7 x0 x1 x2 x3 x4 x5 y = turned (k0_pay45 x0 x1 x2 x3 x4 x5) x3 x4 x5 (y 0) (y 1) := by
  unfold_out out0_7
  canon_tiles x h
  all_goals (open_payloads)
  all_goals first
    | (unfold turned; rw [if_neg (by omega)]; pointwise <;> blk_point []; done)
    | (unfold turned; rw [if_pos (by omega)]; pointwise [turnedRow] <;> blk_point []; done)

/-- The keys stored in 16 bits are the projected keys, the first half rotated. -/
theorem keyed16 : out0_9 x0 x1 x2 x3 x4 x5 y = turned (k0_pay45 x0 x1 x2 x3 x4 x5) x3 x4 x5 (y 0) (y 1) := by
  unfold_out out0_9
  canon_tiles x h
  all_goals (open_payloads)
  all_goals first
    | (unfold turned; rw [if_neg (by omega)]; pointwise <;> blk_point []; done)
    | (unfold turned; rw [if_pos (by omega)]; pointwise [turnedRow] <;> blk_point []; done)

/-- The stored queries are the projected queries; the first half rotated, all scaled. -/
theorem queried : out0_6 x0 x1 x2 x3 x4 x5 y
    = turned (k0_pay44 x0 x1 x2 x3 x4 x5) x3 x4 x5 (y 0) (y 1) * FloatOps.ofBits (F := Ideal) .f32 0x3E000000#32 := by
  unfold_out out0_6
  canon_tiles x h
  all_goals (open_payloads)
  all_goals first
    | (unfold turned; rw [if_neg (by omega)]; pointwise <;> blk_point []; done)
    | (unfold turned; rw [if_pos (by omega)]; pointwise [turnedRow] <;> blk_point []; done)

end

/-! ## The tables -/

/-- The cosines and sines of the reference: one per position and rotated lane. -/
abbrev cosRef (c : Dev nD) := Cert.QkvEvenRefIdeal.Read.val_main_v33 (F := Ideal) (m ((c : Thread nD τ).loc main_arg3))
abbrev sinRef (c : Dev nD) := Cert.QkvEvenRefIdeal.Read.val_main_v35 (F := Ideal) (m ((c : Thread nD τ).loc main_arg3))

/-- The host's cosines before they are laid out are the reference's. -/
theorem cos_made (c : Dev nD) : StableHlo.upto hostOps0 (fun b => m (c, b)) 59 (Proc.tc.devRef main_v40) = cosRef m c := by
  after_reads_simp
  rfl

/-- The host's table of cosines is `cosTable` of the reference's cosines. -/
theorem cosines (c : Dev nD) (R : Fin 16896) (l : Fin 128) (z : FVec Ideal S16896x128 .f32) (hz : z = V m c main_v52) :
   z (ix2 R l) = cosTable (fun i => cosRef m c (ix2 R i)) l := by
  rw [hz]
  show StableHlo.after hostOps0 (fun b => m (c, b)) (Proc.tc.devRef main_v52) (ix2 R l) = _
  after_reads_simp
  unfold cosTable
  by_cases h : (l : ℕ) % 64 < 8
  · pointwise [h]
    exact congrFun (cos_made m c) _
  · by_cases h' : (l : ℕ) % 64 < 16
    · have h2 : (l : ℕ) % 64 - 8 < 8 := by omega
      pointwise [h, h', h2]
      exact congrFun (cos_made m c) _
    · have h2 : ¬ (l : ℕ) % 64 - 8 < 8 := by omega
      pointwise [h, h', h2]
      after_reads_simp
      pointwise

/-- The host's table for the lane below is `lowTable` of the reference's sines. -/
theorem lows (c : Dev nD) (R : Fin 16896) (l : Fin 128) (z : FVec Ideal S16896x128 .f32) (hz : z = V m c main_v55) :
   z (ix2 R l) = lowTable (fun i => sinRef m c (ix2 R i)) l := by
  rw [hz]
  show StableHlo.after hostOps0 (fun b => m (c, b)) (Proc.tc.devRef main_v55) (ix2 R l) = _
  after_reads_simp
  unfold lowTable
  by_cases h : (l : ℕ) % 64 < 8
  · pointwise [h]
    after_reads_simp
    pointwise
  · by_cases h' : (l : ℕ) % 64 < 16
    · have h2 : (l : ℕ) % 64 - 8 < 8 := by omega
      pointwise [h, h', h2]
      after_reads_simp
      rfl
    · have h2 : ¬ (l : ℕ) % 64 - 8 < 8 := by omega
      pointwise [h, h', h2]
      after_reads_simp
      pointwise

/-- The host's table for the lane above is `highTable` of the reference's sines. -/
theorem highs (c : Dev nD) (R : Fin 16896) (l : Fin 128) (z : FVec Ideal S16896x128 .f32) (hz : z = V m c main_v58) :
   z (ix2 R l) = highTable (fun i => sinRef m c (ix2 R i)) l := by
  rw [hz]
  show StableHlo.after hostOps0 (fun b => m (c, b)) (Proc.tc.devRef main_v58) (ix2 R l) = _
  after_reads_simp
  unfold highTable
  by_cases h : (l : ℕ) % 64 < 8
  · pointwise [h]
    after_reads_simp
    rfl
  · pointwise [h]
    after_reads_simp
    pointwise
    exact ite_self _

/-! ## The columns -/

/-- Where lane `k` of the queries, of the keys and of the values stands among the product's columns. -/
abbrev colQ (k : Fin 1024) : Fin 3072 := ⟨(k : ℕ) + 1024 * ((k : ℕ) / 512), by omega⟩
abbrev colK (k : Fin 1024) : Fin 3072 := ⟨512 + (k : ℕ) + 1024 * ((k : ℕ) / 512), by omega⟩
abbrev colV (k : Fin 1024) : Fin 3072 := ⟨1024 + (k : ℕ) + 1024 * ((k : ℕ) / 512), by omega⟩

/-- The column of the weights that the host puts at column `j`. -/
abbrev evenCol (j : Fin 3072) : Fin 3072 := ⟨(j : ℕ) / 1024 * 512 + (j : ℕ) % 1024 + 1024 * ((j : ℕ) % 1024 / 512), by omega⟩

/-- A gather of whole columns read at an index: where the start indices hold a column number, that column of the operand. -/
theorem gather_col (x : FVec Ideal S1024x3072 .f32) (idx : IVec S3072x1 32) (r : Fin 1024) (j b : Fin 3072)
    (hb : idx (ix2 j (0 : Fin 1)) = BitVec.ofNat 32 b.val) :
    Host.gather gather_S1024x3072_S3072x1_S1024x3072_0_1_n_n_1_1_10241 x idx (ix2 r j) = x (ix2 r b) := by
  unfold Host.gather
  congr 1
  funext a
  refine Fin.ext ?_
  show GatherDims.start gather_S1024x3072_S3072x1_S1024x3072_0_1_n_n_1_1_10241 (ix2 r j) idx a
    + GatherDims.batchCoord gather_S1024x3072_S3072x1_S1024x3072_0_1_n_n_1_1_10241 (ix2 r j) a
    + GatherDims.offCoord gather_S1024x3072_S3072x1_S1024x3072_0_1_n_n_1_1_10241 (ix2 r j) a = _
  rw [GatherDims.batchCoord_eq_zero _ _ _ List.not_mem_nil]
  match a with
  | ⟨0, _⟩ =>
    have e : GatherDims.start gather_S1024x3072_S3072x1_S1024x3072_0_1_n_n_1_1_10241 (ix2 r j) idx 0 = 0 := by
      unfold GatherDims.start
      exact dif_neg (show (0 : Fin 2) ∉ [(1 : Fin 2)] by decide)
    have e' : GatherDims.offCoord gather_S1024x3072_S3072x1_S1024x3072_0_1_n_n_1_1_10241 (ix2 r j) 0 = r.val := rfl
    exact (congrArg₂ (fun p q => p + 0 + q) e e').trans (by simp)
  | ⟨1, _⟩ =>
    have e : GatherDims.start gather_S1024x3072_S3072x1_S1024x3072_0_1_n_n_1_1_10241 (ix2 r j) idx 1 = b.val := by
      unfold GatherDims.start
      refine (dif_pos (show (1 : Fin 2) ∈ [(1 : Fin 2)] by decide)).trans ?_
      have hsi : GatherDims.siIdx gather_S1024x3072_S3072x1_S1024x3072_0_1_n_n_1_1_10241 (ix2 r j)
          ⟨List.idxOf (1 : Fin 2) [(1 : Fin 2)], by decide⟩ = ix2 j (0 : Fin 1) := by
        funext q
        refine Fin.ext ?_
        match q with
        | ⟨0, _⟩ => rfl
        | ⟨1, _⟩ => rfl
      have hb' : (idx (GatherDims.siIdx gather_S1024x3072_S3072x1_S1024x3072_0_1_n_n_1_1_10241 (ix2 r j)
          ⟨List.idxOf (1 : Fin 2) [(1 : Fin 2)], by decide⟩)).toInt.toNat = b.val := by
        rw [hsi, hb]
        have := b.isLt
        rw [BitVec.toInt_ofNat', Int.bmod_def]
        omega
      refine (congrArg (fun n => min n 3071) hb').trans ?_
      have := b.isLt
      omega
    have e' : GatherDims.offCoord gather_S1024x3072_S3072x1_S1024x3072_0_1_n_n_1_1_10241 (ix2 r j) 1 = 0 := rfl
    exact (congrArg₂ (fun p q => p + 0 + q) e e').trans (by simp)

/-- A column number is not negative, so it is kept as it is. -/
theorem kept (x y : BitVec 32) (n : ℕ) (h : n < 3072) (hx : x = BitVec.ofNat 32 n) :
    Scalar.select (IntOp.cmpi CmpIPredicate.slt x 0#32) y x = BitVec.ofNat 32 n := by
  subst hx
  unfold Scalar.select
  have e : ¬ ((BitVec.ofNat 32 n).toInt < (0#32 : BitVec 32).toInt) := by
    rw [show (0#32 : BitVec 32).toInt = 0 from rfl, BitVec.toInt_ofNat', Int.bmod_def]
    omega
  rw [WordCmp.cmpi_slt_eq, decide_eq_false e]
  rfl

/-- The host's list of columns. -/
theorem columns (c : Dev nD) (j : Fin 3072) (z : IVec S3072x1 32) (hz : z = StableHlo.upto hostOps0 (fun b => m (c, b)) 34 (Proc.tc.devRef main_v25)) :
    z (ix2 j (0 : Fin 1)) = BitVec.ofNat 32 (evenCol j).val := by
  have hj := j.isLt
  rw [hz]
  after_reads_simp
  by_cases h0 : (j : ℕ) < 512
  · pointwise [h0]
    after_reads_simp
    pointwise
    refine kept _ _ _ (by omega) ?_
    rw [show (j : ℕ) / 1024 * 512 + (j : ℕ) % 1024 + 1024 * ((j : ℕ) % 1024 / 512) = (j : ℕ) + 0 by omega]
    exact (BitVec.ofNat_add _ _).symm
  by_cases h1 : (j : ℕ) - 512 < 512
  · pointwise [h0, h1]
    after_reads_simp
    pointwise
    refine kept _ _ _ (by omega) ?_
    rw [show (j : ℕ) / 1024 * 512 + (j : ℕ) % 1024 + 1024 * ((j : ℕ) % 1024 / 512) = (j : ℕ) - 512 + 1536 by omega]
    exact (BitVec.ofNat_add _ _).symm
  by_cases h2 : (j : ℕ) - 512 - 512 < 512
  · pointwise [h0, h1, h2]
    after_reads_simp
    pointwise
    refine kept _ _ _ (by omega) ?_
    rw [show (j : ℕ) / 1024 * 512 + (j : ℕ) % 1024 + 1024 * ((j : ℕ) % 1024 / 512) = (j : ℕ) - 512 - 512 + 512 by omega]
    exact (BitVec.ofNat_add _ _).symm
  by_cases h3 : (j : ℕ) - 512 - 512 - 512 < 512
  · pointwise [h0, h1, h2, h3]
    after_reads_simp
    pointwise
    refine kept _ _ _ (by omega) ?_
    rw [show (j : ℕ) / 1024 * 512 + (j : ℕ) % 1024 + 1024 * ((j : ℕ) % 1024 / 512) = (j : ℕ) - 512 - 512 - 512 + 2048 by omega]
    exact (BitVec.ofNat_add _ _).symm
  by_cases h4 : (j : ℕ) - 512 - 512 - 512 - 512 < 512
  · pointwise [h0, h1, h2, h3, h4]
    after_reads_simp
    pointwise
    refine kept _ _ _ (by omega) ?_
    rw [show (j : ℕ) / 1024 * 512 + (j : ℕ) % 1024 + 1024 * ((j : ℕ) % 1024 / 512) = (j : ℕ) - 512 - 512 - 512 - 512 + 1024 by omega]
    exact (BitVec.ofNat_add _ _).symm
  · pointwise [h0, h1, h2, h3, h4]
    after_reads_simp
    pointwise
    refine kept _ _ _ (by omega) ?_
    rw [show (j : ℕ) / 1024 * 512 + (j : ℕ) % 1024 + 1024 * ((j : ℕ) % 1024 / 512) = (j : ℕ) - 512 - 512 - 512 - 512 - 512 + 2560 by omega]
    exact (BitVec.ofNat_add _ _).symm

/-- The host's weights are the given ones, their columns laid out anew. -/
theorem weights (c : Dev nD) (i : Fin 1024) (j : Fin 3072) (z : FVec Ideal S1024x3072 .bf16) (hz : z = V m c main_v27) :
    z (ix2 i j) = (m ((c : Thread nD τ).loc main_arg2) : FVec Ideal S1024x3072 .f32) (ix2 i (evenCol j)) := by
  rw [hz]
  show StableHlo.after hostOps0 (fun b => m (c, b)) (Proc.tc.devRef main_v27) (ix2 i j) = _
  after_reads_simp
  pointwise
  refine gather_col _ _ i j (evenCol j) ((?_ : _ = StableHlo.upto hostOps0 (fun b => m (c, b)) 34 (Proc.tc.devRef main_v25) (ix2 j (0 : Fin 1))).trans
    (columns m c j _ rfl))
  after_reads_simp
  rfl

/-! ## The reference -/

/-- The rotary embedding on the first 512 lanes; the others are kept. -/
def halved (P : Fin 1024 → EReal) (cs sn : Fin 8 → EReal) (C : Fin 1024) : EReal :=
  if (C : ℕ) < 512 then rotaryRow P cs sn C else P C

section
open Cert.QkvEvenRefIdeal.Read
variable (x : FVec Ideal S16896x1024 .f32) (g : FVec Ideal S1024 .f32) (w : FVec Ideal S1024x3072 .f32)
  (p : (⟨S16896, .i32⟩ : BufTy).Contents (Elt Ideal)) (R : Fin 16896) (C : Fin 1024)

/-- The reference's keys are its projected keys, half of them under the rotary embedding. -/
theorem key_ref : val_main_v91 (F := Ideal) x g w p (ix2 R C)
    = halved (fun k => val_main_v13 (F := Ideal) x g w (ix2 R (colK k))) (fun i => val_main_v70 (F := Ideal) p (ix2 R i))
        (fun i => val_main_v72 (F := Ideal) p (ix2 R i)) C := by
  unfold halved rotaryRow
  have hC := C.isLt
  by_cases hl : (C : ℕ) < 512
  · have hl' : (C : ℕ) / 64 < 8 := by omega
    by_cases h : (C : ℕ) % 64 < 8
    · have h2 : (C : ℕ) % 64 < 16 := by omega
      pointwise [hl, hl', h, h2, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v71, val_main_v57, val_main_v18, val_main_v15]
      blk_point []
    · by_cases h' : (C : ℕ) % 64 < 16
      · pointwise [hl, hl', h, h', val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v71, val_main_v57, val_main_v18, val_main_v15]
        blk_point []
      · pointwise [hl, hl', h, h', val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v71, val_main_v57, val_main_v18, val_main_v15]
        blk_point []
  · have hl' : ¬ (C : ℕ) / 64 < 8 := by omega
    pointwise [hl, hl', val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v71, val_main_v57, val_main_v18, val_main_v15]
    blk_point []

/-- The reference's queries are its projected queries, half of them under the rotary embedding, scaled. -/
theorem query_ref : val_main_v96 (F := Ideal) x g w p (ix2 R C)
    = halved (fun k => val_main_v13 (F := Ideal) x g w (ix2 R (colQ k))) (fun i => val_main_v33 (F := Ideal) p (ix2 R i))
        (fun i => val_main_v35 (F := Ideal) p (ix2 R i)) C * FloatOps.ofBits (F := Ideal) .f32 0x3E000000#32 := by
  unfold halved rotaryRow
  have hC := C.isLt
  by_cases hl : (C : ℕ) < 512
  · have hl' : (C : ℕ) / 64 < 8 := by omega
    by_cases h : (C : ℕ) % 64 < 8
    · have h2 : (C : ℕ) % 64 < 16 := by omega
      pointwise [hl, hl', h, h2, val_main_v96, val_main_v56, val_main_v55, val_main_cst_4, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v34, val_main_v20, val_main_v17, val_main_v14]
      blk_point []
    · by_cases h' : (C : ℕ) % 64 < 16
      · pointwise [hl, hl', h, h', val_main_v96, val_main_v56, val_main_v55, val_main_cst_4, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v34, val_main_v20, val_main_v17, val_main_v14]
        blk_point []
      · pointwise [hl, hl', h, h', val_main_v96, val_main_v56, val_main_v55, val_main_cst_4, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v34, val_main_v20, val_main_v17, val_main_v14]
        blk_point []
  · have hl' : ¬ (C : ℕ) / 64 < 8 := by omega
    pointwise [hl, hl', val_main_v96, val_main_v56, val_main_v55, val_main_cst_4, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v34, val_main_v20, val_main_v17, val_main_v14]
    blk_point []

/-- The reference's values are columns of its product. -/
theorem value_ref : val_main_v95 (F := Ideal) x g w (ix2 R C) = val_main_v13 (F := Ideal) x g w (ix2 R (colV C)) := by
  have hC := C.isLt
  by_cases hl : (C : ℕ) < 512
  · have hl' : (C : ℕ) / 64 < 8 := by omega
    pointwise [hl, hl', val_main_v95, val_main_v94, val_main_v93, val_main_v92, val_main_v19, val_main_v16]
    blk_point []
  · have hl' : ¬ (C : ℕ) / 64 < 8 := by omega
    pointwise [hl, hl', val_main_v95, val_main_v94, val_main_v93, val_main_v92, val_main_v19, val_main_v16]
    blk_point []

end

/-- Where each window's block sits, for every grid point. -/
theorem places : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

/-- Where row `r` of grid point `t`'s block sits in the arrays. -/
abbrev row (t : Fin cfg0.N) (r : Fin 512) : Fin 16896 :=
  ⟨t.val * 512 + r.val, by have h : t.val < 33 := t.isLt; have := r.isLt; omega⟩

/-- A grid point's weights are the given ones, their columns laid out anew. -/
theorem weight_block (c : Dev nD) (t : Fin cfg0.N) (i : Fin 1024) (j : Fin 3072) :
    (iblk m c 2 t : FVec Ideal S1024x3072 .bf16) (ix2 i j)
      = (m ((c : Thread nD τ).loc main_arg2) : FVec Ideal S1024x3072 .f32) (ix2 i (evenCol j)) := by
  rw [← weights m c i j _ rfl]
  blk_ext [iblk, places t]

/-- The keys projected at a grid point are the reference's. -/
theorem keys_at (c : Dev nD) (t : Fin cfg0.N) (r : Fin 512) (C : Fin 1024) :
    k0_pay45 (iblk m c 0 t) (iblk m c 1 t) (iblk m c 2 t) (iblk m c 3 t) (iblk m c 4 t) (iblk m c 5 t) (ix2 r C)
      = Cert.QkvEvenRefIdeal.Read.val_main_v13 (F := Ideal) (m ((c : Thread nD τ).loc main_arg0)) (m ((c : Thread nD τ).loc main_arg1))
          (m ((c : Thread nD τ).loc main_arg2)) (ix2 (row t r) (colK C)) := by
  pointwise [k0_pay45, k0_pay13, k0_pay8, Cert.QkvEvenRefIdeal.Read.val_main_v13, Cert.QkvEvenRefIdeal.Read.val_main_v12, Cert.QkvEvenRefIdeal.Read.val_main_v11, Cert.QkvEvenRefIdeal.Read.val_main_v10, Cert.QkvEvenRefIdeal.Read.val_main_v9, Cert.QkvEvenRefIdeal.Read.val_main_v8, Cert.QkvEvenRefIdeal.Read.val_main_v7, Cert.QkvEvenRefIdeal.Read.val_main_v6, Cert.QkvEvenRefIdeal.Read.val_main_v5, Cert.QkvEvenRefIdeal.Read.val_main_cst_1, Cert.QkvEvenRefIdeal.Read.val_main_v4, Cert.QkvEvenRefIdeal.Read.val_main_v3, Cert.QkvEvenRefIdeal.Read.val_main_cst_0, Cert.QkvEvenRefIdeal.Read.val_main_v2, Cert.QkvEvenRefIdeal.Read.val_main_v1, Cert.QkvEvenRefIdeal.Read.val_main_cst, Cert.QkvEvenRefIdeal.Read.val_main_v0]
  simp only [weight_block]
  blk_point [iblk, V, places t]

/-- The queries projected at a grid point are the reference's. -/
theorem queries_at (c : Dev nD) (t : Fin cfg0.N) (r : Fin 512) (C : Fin 1024) :
    k0_pay44 (iblk m c 0 t) (iblk m c 1 t) (iblk m c 2 t) (iblk m c 3 t) (iblk m c 4 t) (iblk m c 5 t) (ix2 r C)
      = Cert.QkvEvenRefIdeal.Read.val_main_v13 (F := Ideal) (m ((c : Thread nD τ).loc main_arg0)) (m ((c : Thread nD τ).loc main_arg1))
          (m ((c : Thread nD τ).loc main_arg2)) (ix2 (row t r) (colQ C)) := by
  pointwise [k0_pay44, k0_pay12, k0_pay8, Cert.QkvEvenRefIdeal.Read.val_main_v13, Cert.QkvEvenRefIdeal.Read.val_main_v12, Cert.QkvEvenRefIdeal.Read.val_main_v11, Cert.QkvEvenRefIdeal.Read.val_main_v10, Cert.QkvEvenRefIdeal.Read.val_main_v9, Cert.QkvEvenRefIdeal.Read.val_main_v8, Cert.QkvEvenRefIdeal.Read.val_main_v7, Cert.QkvEvenRefIdeal.Read.val_main_v6, Cert.QkvEvenRefIdeal.Read.val_main_v5, Cert.QkvEvenRefIdeal.Read.val_main_cst_1, Cert.QkvEvenRefIdeal.Read.val_main_v4, Cert.QkvEvenRefIdeal.Read.val_main_v3, Cert.QkvEvenRefIdeal.Read.val_main_cst_0, Cert.QkvEvenRefIdeal.Read.val_main_v2, Cert.QkvEvenRefIdeal.Read.val_main_v1, Cert.QkvEvenRefIdeal.Read.val_main_cst, Cert.QkvEvenRefIdeal.Read.val_main_v0]
  simp only [weight_block]
  blk_point [iblk, V, places t]

/-- The values projected at a grid point are the reference's. -/
theorem values_at (c : Dev nD) (t : Fin cfg0.N) (r : Fin 512) (C : Fin 1024) :
    k0_pay46 (iblk m c 0 t) (iblk m c 1 t) (iblk m c 2 t) (iblk m c 3 t) (iblk m c 4 t) (iblk m c 5 t) (ix2 r C)
      = Cert.QkvEvenRefIdeal.Read.val_main_v13 (F := Ideal) (m ((c : Thread nD τ).loc main_arg0)) (m ((c : Thread nD τ).loc main_arg1))
          (m ((c : Thread nD τ).loc main_arg2)) (ix2 (row t r) (colV C)) := by
  pointwise [k0_pay46, k0_pay14, k0_pay8, Cert.QkvEvenRefIdeal.Read.val_main_v13, Cert.QkvEvenRefIdeal.Read.val_main_v12, Cert.QkvEvenRefIdeal.Read.val_main_v11, Cert.QkvEvenRefIdeal.Read.val_main_v10, Cert.QkvEvenRefIdeal.Read.val_main_v9, Cert.QkvEvenRefIdeal.Read.val_main_v8, Cert.QkvEvenRefIdeal.Read.val_main_v7, Cert.QkvEvenRefIdeal.Read.val_main_v6, Cert.QkvEvenRefIdeal.Read.val_main_v5, Cert.QkvEvenRefIdeal.Read.val_main_cst_1, Cert.QkvEvenRefIdeal.Read.val_main_v4, Cert.QkvEvenRefIdeal.Read.val_main_v3, Cert.QkvEvenRefIdeal.Read.val_main_cst_0, Cert.QkvEvenRefIdeal.Read.val_main_v2, Cert.QkvEvenRefIdeal.Read.val_main_v1, Cert.QkvEvenRefIdeal.Read.val_main_cst, Cert.QkvEvenRefIdeal.Read.val_main_v0]
  simp only [weight_block]
  blk_point [iblk, V, places t]

/-- A grid point's block of each table, in the reference's cosines and sines. -/
theorem cos_block (c : Dev nD) (t : Fin cfg0.N) (r : Fin 512) (l : Fin 128) :
    (iblk m c 3 t : FVec Ideal S512x128 .f32) (ix2 r l) = cosTable (fun i => cosRef m c (ix2 (row t r) i)) l := by
  rw [← cosines m c (row t r) l _ rfl]
  blk_ext [iblk, places t]
theorem low_block (c : Dev nD) (t : Fin cfg0.N) (r : Fin 512) (l : Fin 128) :
    (iblk m c 4 t : FVec Ideal S512x128 .f32) (ix2 r l) = lowTable (fun i => sinRef m c (ix2 (row t r) i)) l := by
  rw [← lows m c (row t r) l _ rfl]
  blk_ext [iblk, places t]
theorem high_block (c : Dev nD) (t : Fin cfg0.N) (r : Fin 512) (l : Fin 128) :
    (iblk m c 5 t : FVec Ideal S512x128 .f32) (ix2 r l) = highTable (fun i => sinRef m c (ix2 (row t r) i)) l := by
  rw [← highs m c (row t r) l _ rfl]
  blk_ext [iblk, places t]

/-- A grid point's rotated keys are the rotary embedding of the reference's projected keys. -/
theorem keys_turned (c : Dev nD) (t : Fin cfg0.N) (r : Fin 512) (C : Fin 1024) :
    turned (k0_pay45 (iblk m c 0 t) (iblk m c 1 t) (iblk m c 2 t) (iblk m c 3 t) (iblk m c 4 t) (iblk m c 5 t))
        (iblk m c 3 t) (iblk m c 4 t) (iblk m c 5 t) r C
      = halved (fun k => Cert.QkvEvenRefIdeal.Read.val_main_v13 (F := Ideal) (m ((c : Thread nD τ).loc main_arg0))
            (m ((c : Thread nD τ).loc main_arg1)) (m ((c : Thread nD τ).loc main_arg2)) (ix2 (row t r) (colK k)))
          (fun i => cosRef m c (ix2 (row t r) i)) (fun i => sinRef m c (ix2 (row t r) i)) C := by
  unfold turned halved
  rw [keys_at m c t r C, funext (keys_at m c t r), funext (cos_block m c t r), funext (low_block m c t r), funext (high_block m c t r)]
  rw [turned_eq]

/-- A grid point's rotated queries are the rotary embedding of the reference's projected queries. -/
theorem queries_turned (c : Dev nD) (t : Fin cfg0.N) (r : Fin 512) (C : Fin 1024) :
    turned (k0_pay44 (iblk m c 0 t) (iblk m c 1 t) (iblk m c 2 t) (iblk m c 3 t) (iblk m c 4 t) (iblk m c 5 t))
        (iblk m c 3 t) (iblk m c 4 t) (iblk m c 5 t) r C
      = halved (fun k => Cert.QkvEvenRefIdeal.Read.val_main_v13 (F := Ideal) (m ((c : Thread nD τ).loc main_arg0))
            (m ((c : Thread nD τ).loc main_arg1)) (m ((c : Thread nD τ).loc main_arg2)) (ix2 (row t r) (colQ k)))
          (fun i => cosRef m c (ix2 (row t r) i)) (fun i => sinRef m c (ix2 (row t r) i)) C := by
  unfold turned halved
  rw [queries_at m c t r C, funext (queries_at m c t r), funext (cos_block m c t r), funext (low_block m c t r), funext (high_block m c t r)]
  rw [turned_eq]

/-! ## The results -/

section
variable (c : Dev nD)

/-- The argument arrays. -/
abbrev X := (m ((c : Thread nD τ).loc main_arg0) : FVec Ideal S16896x1024 .f32)
abbrev Gn := (m ((c : Thread nD τ).loc main_arg1) : FVec Ideal S1024 .f32)
abbrev W := (m ((c : Thread nD τ).loc main_arg2) : FVec Ideal S1024x3072 .f32)
abbrev Ps := (m ((c : Thread nD τ).loc main_arg3) : (⟨S16896, .i32⟩ : BufTy).Contents (Elt Ideal))

/-- Where an index of window 6's block sits in its array. -/
theorem emb6 (t : Fin cfg0.N) (y : S512x1024.Idx) : ((cfg0.win 6).blk t).view.emb y = ix2 (row t (y 0)) (y 1) :=
  funext fun a => Fin.ext (by
    match a with
    | ⟨0, _⟩ => blk_simp [places t]; rfl
    | ⟨1, _⟩ => blk_simp [places t]; rfl)

/-- Where an index of window 7's block sits in its array. -/
theorem emb7 (t : Fin cfg0.N) (y : S512x1024.Idx) : ((cfg0.win 7).blk t).view.emb y = ix2 (row t (y 0)) (y 1) :=
  funext fun a => Fin.ext (by
    match a with
    | ⟨0, _⟩ => blk_simp [places t]; rfl
    | ⟨1, _⟩ => blk_simp [places t]; rfl)

/-- Where an index of window 9's block sits in its array. -/
theorem emb9 (t : Fin cfg0.N) (y : S512x1024.Idx) : ((cfg0.win 9).blk t).view.emb y = ix2 (row t (y 0)) (y 1) :=
  funext fun a => Fin.ext (by
    match a with
    | ⟨0, _⟩ => blk_simp [places t]; rfl
    | ⟨1, _⟩ => blk_simp [places t]; rfl)

/-- The keys after the run are the reference's. -/
theorem stored7 (t : Fin cfg0.N) (y : S512x1024.Idx) :
    out0_7 (iblk m c 0 t) (iblk m c 1 t) (iblk m c 2 t) (iblk m c 3 t) (iblk m c 4 t) (iblk m c 5 t) y
      = Cert.QkvEvenRefIdeal.Read.val_main_v91 (F := Ideal) (X m c) (Gn m c) (W m c) (Ps m c) (((cfg0.win 7).blk t).view.emb y) := by
  refine (keyed _ _ _ _ _ _ y).trans ((keys_turned m c t (y 0) (y 1)).trans ?_)
  rw [emb7]
  exact (key_ref (X m c) (Gn m c) (W m c) (Ps m c) (row t (y 0)) (y 1)).symm

theorem result7 : (dats m 0 c).arrAt 7 (cfgs 0).N = Cert.QkvEvenRefIdeal.Read.val_main_v91 (F := Ideal) (X m c) (Gn m c) (W m c) (Ps m c) := by
  refine (dats m 0 c).arrAt_eq_of_covers 7 _ (by decide +kernel) fun t _ y => ?_
  blk_simp
  rw [after0_7]
  exact stored7 m c t y

/-- The keys in 16 bits after the run are the reference's. -/
theorem stored9 (t : Fin cfg0.N) (y : S512x1024.Idx) :
    out0_9 (iblk m c 0 t) (iblk m c 1 t) (iblk m c 2 t) (iblk m c 3 t) (iblk m c 4 t) (iblk m c 5 t) y
      = Cert.QkvEvenRefIdeal.Read.val_main_v97 (F := Ideal) (X m c) (Gn m c) (W m c) (Ps m c) (((cfg0.win 9).blk t).view.emb y) := by
  refine (keyed16 _ _ _ _ _ _ y).trans ((keys_turned m c t (y 0) (y 1)).trans ?_)
  rw [emb9]
  exact (key_ref (X m c) (Gn m c) (W m c) (Ps m c) (row t (y 0)) (y 1)).symm

theorem result9 : (dats m 0 c).arrAt 9 (cfgs 0).N = Cert.QkvEvenRefIdeal.Read.val_main_v97 (F := Ideal) (X m c) (Gn m c) (W m c) (Ps m c) := by
  refine (dats m 0 c).arrAt_eq_of_covers 9 _ (by decide +kernel) fun t _ y => ?_
  blk_simp
  rw [after0_9]
  exact stored9 m c t y

/-- The queries after the run are the reference's. -/
theorem stored6 (t : Fin cfg0.N) (y : S512x1024.Idx) :
    out0_6 (iblk m c 0 t) (iblk m c 1 t) (iblk m c 2 t) (iblk m c 3 t) (iblk m c 4 t) (iblk m c 5 t) y
      = Cert.QkvEvenRefIdeal.Read.val_main_v96 (F := Ideal) (X m c) (Gn m c) (W m c) (Ps m c) (((cfg0.win 6).blk t).view.emb y) := by
  refine (queried _ _ _ _ _ _ y).trans ?_
  rw [queries_turned m c t (y 0) (y 1), emb6]
  exact (query_ref (X m c) (Gn m c) (W m c) (Ps m c) (row t (y 0)) (y 1)).symm

theorem result6 : (dats m 0 c).arrAt 6 (cfgs 0).N = Cert.QkvEvenRefIdeal.Read.val_main_v96 (F := Ideal) (X m c) (Gn m c) (W m c) (Ps m c) := by
  refine (dats m 0 c).arrAt_eq_of_covers 6 _ (by decide +kernel) fun t _ y => ?_
  blk_simp
  rw [after0_6]
  exact stored6 m c t y

/-- Where an index of window 8's block sits in its array. -/
theorem emb8 (t : Fin cfg0.N) (y : S512x1024.Idx) : ((cfg0.win 8).blk t).view.emb y = ix2 (row t (y 0)) (y 1) :=
  funext fun a => Fin.ext (by
    match a with
    | ⟨0, _⟩ => blk_simp [places t]; rfl
    | ⟨1, _⟩ => blk_simp [places t]; rfl)

/-- Where an index of window 10's block sits in its array. -/
theorem emb10 (t : Fin cfg0.N) (y : S512x1024.Idx) : ((cfg0.win 10).blk t).view.emb y = ix2 (row t (y 0)) (y 1) :=
  funext fun a => Fin.ext (by
    match a with
    | ⟨0, _⟩ => blk_simp [places t]; rfl
    | ⟨1, _⟩ => blk_simp [places t]; rfl)

/-- The values after the run are the reference's. -/
theorem stored8 (t : Fin cfg0.N) (y : S512x1024.Idx) :
    out0_8 (iblk m c 0 t) (iblk m c 1 t) (iblk m c 2 t) (iblk m c 3 t) (iblk m c 4 t) (iblk m c 5 t) y
      = Cert.QkvEvenRefIdeal.Read.val_main_v95 (F := Ideal) (X m c) (Gn m c) (W m c) (((cfg0.win 8).blk t).view.emb y) := by
  rw [emb8]
  refine Eq.trans ?_ ((values_at m c t (y 0) (y 1)).trans (value_ref (X m c) (Gn m c) (W m c) (row t (y 0)) (y 1)).symm)
  frame_out
  pointwise

theorem result8 : (dats m 0 c).arrAt 8 (cfgs 0).N = Cert.QkvEvenRefIdeal.Read.val_main_v95 (F := Ideal) (X m c) (Gn m c) (W m c) := by
  refine (dats m 0 c).arrAt_eq_of_covers 8 _ (by decide +kernel) fun t _ y => ?_
  blk_simp
  rw [after0_8]
  exact stored8 m c t y

/-- The values in 16 bits after the run are the reference's. -/
theorem stored10 (t : Fin cfg0.N) (y : S512x1024.Idx) :
    out0_10 (iblk m c 0 t) (iblk m c 1 t) (iblk m c 2 t) (iblk m c 3 t) (iblk m c 4 t) (iblk m c 5 t) y
      = Cert.QkvEvenRefIdeal.Read.val_main_v98 (F := Ideal) (X m c) (Gn m c) (W m c) (((cfg0.win 10).blk t).view.emb y) := by
  rw [emb10]
  refine Eq.trans ?_ ((values_at m c t (y 0) (y 1)).trans (value_ref (X m c) (Gn m c) (W m c) (row t (y 0)) (y 1)).symm)
  frame_out
  pointwise [k0_pay7]

theorem result10 : (dats m 0 c).arrAt 10 (cfgs 0).N = Cert.QkvEvenRefIdeal.Read.val_main_v98 (F := Ideal) (X m c) (Gn m c) (W m c) := by
  refine (dats m 0 c).arrAt_eq_of_covers 10 _ (by decide +kernel) fun t _ y => ?_
  blk_simp
  rw [after0_10]
  exact stored10 m c t y

end

end Cert.QkvEvenIdeal.Whole

end
-- ==== Proof.FinalNorm.lean ====
module

public import proofs.«01_k».proof.Proof.Gen.FinalNormIdeal.Value
public import proofs.«01_k».proof.Proof.Gen.FinalNormRefIdeal.Read
public import Idealize.ShloMosaic.Lib.Pipeline.ValueKit

/-! The final normalization: each row over the root of its mean square, times the gains. -/

@[expose] public section

set_option maxRecDepth 16384

noncomputable section

namespace Cert.FinalNormIdeal.Whole

open Idealize.ShloMosaic Idealize.ShloMosaic.TcCoe Idealize.SL.Sem
open Idealize.ShloMosaic.Pipeline (Dat)
open Cert.FinalNormIdeal Cert.FinalNormIdeal.Gen

variable (m : (ℓ : Loc nD τ sig) → Buf (Elt Ideal) ℓ)

/-- The reference's composed term: the normalized rows. -/
abbrev refTerm (x : FVec Ideal S16896x1024 .f32) (g : FVec Ideal S1024 .f32) : FVec Ideal S16896x1024 .f32 :=
  Cert.FinalNormRefIdeal.Read.val_main_v12 (F := Ideal) x g

/-- Where each window's block sits, for every grid point. -/
theorem places : ∀ t : Fin cfg0.N, win0_0.index t = ![t.val, 0] ∧ win0_1.index t = ![0, 0]
    ∧ win0_2.index t = ![t.val, 0] :=
  (by decide +kernel : ∀ t : Fin grid0.N, _)

/-- What a point stores at a block index is the reference's value where that index sits in the array. -/
theorem stored (c : Dev nD) (t : Fin cfg0.N) (y) :
    k0_pay1 (iblk m c 0 t) (iblk m c 1 t) y
      = refTerm (m ((c : Thread nD τ).loc main_arg0)) (m ((c : Thread nD τ).loc main_arg1))
          (((cfg0.win 2).blk t).view.emb y) := by
  pointwise [k0_pay1, refTerm, Cert.FinalNormRefIdeal.Read.val_main_v12, Cert.FinalNormRefIdeal.Read.val_main_v11, Cert.FinalNormRefIdeal.Read.val_main_v10, Cert.FinalNormRefIdeal.Read.val_main_v9, Cert.FinalNormRefIdeal.Read.val_main_v8, Cert.FinalNormRefIdeal.Read.val_main_v7, Cert.FinalNormRefIdeal.Read.val_main_v6, Cert.FinalNormRefIdeal.Read.val_main_v5, Cert.FinalNormRefIdeal.Read.val_main_cst_1, Cert.FinalNormRefIdeal.Read.val_main_v4, Cert.FinalNormRefIdeal.Read.val_main_v3, Cert.FinalNormRefIdeal.Read.val_main_cst_0, Cert.FinalNormRefIdeal.Read.val_main_v2, Cert.FinalNormRefIdeal.Read.val_main_v1, Cert.FinalNormRefIdeal.Read.val_main_cst, Cert.FinalNormRefIdeal.Read.val_main_v0]
  blk_point [iblk, V, places t]

/-- The result array after the run is the reference's term of the argument arrays. -/
theorem result (c : Dev nD) : (dats m 0 c).arrAt 2 (cfgs 0).N
    = refTerm (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

end Cert.FinalNormIdeal.Whole

end
-- ==== Proof.MemAttn.lean ====
module

public import proofs.«01_k».proof.Proof.Diff
public import proofs.«01_k».proof.Proof.Gen.MemAttnIdeal.Value
public import proofs.«01_k».proof.Proof.Gen.MemAttnRefIdeal.Read
public import Idealize.ShloMosaic.Lib.Pipeline.ValueKit

/-! The attention of the prompt's queries to the memory tokens: four heads, each a softmax over 256 tokens. -/

@[expose] public section

set_option maxRecDepth 16384

noncomputable section

namespace Cert.MemAttnIdeal.Whole

open Idealize.ShloMosaic Idealize.ShloMosaic.TcCoe Idealize.SL.Sem
open Idealize.ShloMosaic.Pipeline (Dat)
open Cert.MemAttnIdeal Cert.MemAttnIdeal.Gen
open Cert.KernelIdeal.Whole (rowMax softmax rowMax_real wt wt_nonneg wt_pos exp_sub_real coe_sum dot_real ofBits_bot)

/-- The weighted values over the sum of the weights, each weight the exponential of a score less the largest. -/
def mean {n : Nat} (s v : Fin n → EReal) : EReal :=
  Ideal.div (∑ j, Ideal.exp (s j - rowMax s) * v j) (∑ j, Ideal.exp (s j - rowMax s))

/-- A sum times a nonnegative real is the sum of the products. -/
theorem sum_mul_real {ι : Type} (B : Finset ι) (f : ι → EReal) (z : ℝ) (hz : 0 ≤ z) :
    (∑ j ∈ B, f j) * (z : EReal) = ∑ j ∈ B, f j * (z : EReal) := by
  classical
  induction B using Finset.induction_on with
  | empty => simp
  | insert a B ha ih =>
    rw [Finset.sum_insert ha, Finset.sum_insert ha, ← ih]
    exact EReal.right_distrib_of_nonneg_of_ne_top (by exact_mod_cast hz) (EReal.coe_ne_top _) _ _

/-- Dividing at the end is the mean under the softmax, on real scores and any values. -/
theorem mean_eq {n : Nat} (s v : Fin n → EReal) (hs : ∀ j, s j ≠ ⊤) (j₀ : Fin n) (h₀ : s j₀ ≠ ⊥) :
    mean s v = ∑ j, v j * softmax s j := by
  obtain ⟨m, hm⟩ := rowMax_real s hs j₀ h₀
  have hZ : 0 < ∑ x, wt (s x) m :=
    Finset.sum_pos' (fun x _ => wt_nonneg _ (hs x) m) ⟨j₀, Finset.mem_univ _, wt_pos _ (hs j₀) h₀ m⟩
  unfold mean softmax
  simp only [hm, exp_sub_real _ (hs _), ← coe_sum, Ideal.div_coe hZ.ne']
  rw [sum_mul_real _ _ _ (by positivity)]
  refine Finset.sum_congr rfl fun j _ => ?_
  rw [mul_comm _ (v j), mul_assoc]

/-- One head: scores of the queries and the keys, their exponentials, and the mean of the values. -/
def head (a : FVec Ideal S512x256 .bf16) (b w : FVec Ideal S256x256 .bf16) : FVec Ideal S512x256 .bf16 :=
  have s : FVec Ideal S512x256 .f32 := mulf (matmul dot_S512x256_S256x256_S512x256_1_1_0_0_n_n none a b (constant S512x256 .f32 0x00000000#32))
    (broadcast S512x256 (Scalar.ofBits .f32 0x3D800000#32))
  have p : FVec Ideal S512x256 .f32 := exp (subf s (broadcastTo S512x256 (shapeCast S512x1
    (multiReduction .maximumf [1] S512 s 0xFF800000#32 reduces_S512x256_S512 (.inl rfl) rfl) shapeCasts_S512_S512x1) broadcasts_S512x1_S512x256))
  truncf .bf16 (divf (matmul dot_S512x256_S256x256_S512x256_1_0_0_1_n_n none (truncf .bf16 p bitsLt_bf16_f32) w (constant S512x256 .f32 0x00000000#32))
    (broadcastTo S512x256 (shapeCast S512x1
    (multiReduction .add [1] S512 p 0x00000000#32 reduces_S512x256_S512 (.inl rfl) rfl) shapeCasts_S512_S512x1) broadcasts_S512x1_S512x256)) bitsLt_bf16_f32

/-- A score: a scaled product of a query and a key over the 256 lanes of a head. -/
def score (a b : Fin 256 → EReal) : EReal := (∑ l, a l * b l) * Ideal.ofBits .f32 0x3D800000#32

/-- A score of reals is real. -/
theorem score_real (a b : Fin 256 → EReal) (ha : ∀ l, a l ≠ ⊤ ∧ a l ≠ ⊥) (hb : ∀ l, b l ≠ ⊤ ∧ b l ≠ ⊥) :
    score a b ≠ ⊤ ∧ score a b ≠ ⊥ := by
  have h := dot_real a b ha hb
  have hc : ∃ z : ℝ, Ideal.ofBits .f32 0x3D800000#32 = (z : EReal) := by
    have e : Ideal.ofBits .f32 0x3D800000#32 ≠ ⊤ ∧ Ideal.ofBits .f32 0x3D800000#32 ≠ ⊥ := by
      simp only [Ideal.ofBits, Ideal.ieee]
      exact ⟨EReal.coe_ne_top _, EReal.coe_ne_bot _⟩
    exact ⟨_, (EReal.coe_toReal e.1 e.2).symm⟩
  obtain ⟨z, hz⟩ := hc
  unfold score
  rw [← EReal.coe_toReal h.1 h.2, hz, ← EReal.coe_mul]
  exact ⟨EReal.coe_ne_top _, EReal.coe_ne_bot _⟩

/-- The largest score as a fold. -/
theorem rowMax_fold {n : Nat} (s : Fin n → EReal) : rowMax s = (Finset.univ : Finset (Fin n)).fold max ⊥ s :=
  max_eq_right bot_le

/-- A head read at a query and a lane. -/
theorem head_at (a : FVec Ideal S512x256 .bf16) (b w : FVec Ideal S256x256 .bf16) (r : Fin 512) (e : Fin 256) :
    head a b w (ix2 r e)
      = mean (fun j : Fin 256 => score (fun l => a (ix2 r l)) (fun l => b (ix2 j l))) (fun j => w (ix2 j e)) := by
  unfold mean
  simp only [rowMax_fold]
  pointwise [head, score, ofBits_bot]

/-- Lane `l` of the head that lane `C` is in. -/
def headLane (C : Fin 1024) (l : Fin 256) : Fin 1024 := ⟨256 * (C.val / 256) + l.val, by omega⟩

/-- One head's store is the mean of its lanes. -/
theorem piece (x0 : Vec Ideal S512x1024 .bf16) (x1 x2 : Vec Ideal S256x1024 .bf16) (y : S512x1024.Idx) (x : S512x256.Idx)
    (a : FVec Ideal S512x256 .bf16) (b w : FVec Ideal S256x256 .bf16)
    (ha : ∀ l : Fin 256, a (ix2 (x 0) l) = x0 (ix2 (y 0) (headLane (y 1) l)))
    (hb : ∀ j l : Fin 256, b (ix2 j l) = x1 (ix2 j (headLane (y 1) l)))
    (hw : ∀ j : Fin 256, w (ix2 j (x 1)) = x2 (ix2 j (y 1))) :
    head a b w x = mean (fun j : Fin 256 => score (fun l => x0 (ix2 (y 0) (headLane (y 1) l))) (fun l => x1 (ix2 j (headLane (y 1) l))))
          (fun j => x2 (ix2 j (y 1))) := by
  have hx : x = (ix2 (x 0) (x 1) : S512x256.Idx) := funext fun a => by match a with | ⟨0, _⟩ => rfl | ⟨1, _⟩ => rfl
  refine (congrArg (head a b w) hx).trans ((head_at a b w (x 0) (x 1)).trans ?_)
  simp only [ha, hb, hw]

/-- The four heads' stores are one function of the lane. -/
theorem heads (x0 : Vec Ideal S512x1024 .bf16) (x1 x2 : Vec Ideal S256x1024 .bf16) (y : S512x1024.Idx) :
    out0_3 (F := Ideal) x0 x1 x2 y
      = mean (fun j : Fin 256 => score (fun l => x0 (ix2 (y 0) (headLane (y 1) l))) (fun l => x1 (ix2 j (headLane (y 1) l))))
          (fun j => x2 (ix2 j (y 1))) := by
  unfold_out out0_3
  canon_tiles x h
  all_goals refine piece x0 x1 x2 y x _ _ _ (fun l => ?_) (fun j l => ?_) (fun j => ?_)
  all_goals (pointwise [k0_pay1, k0_pay2, headLane])
  all_goals blk_point []

/-! ## The reference -/

section
open Cert.MemAttnRefIdeal.Read
variable (q : FVec Ideal S16896x1024 .bf16) (k v : (⟨⟨2, ![512, 1024]⟩, .f32⟩ : BufTy).Contents (Elt Ideal)) (b : Fin 2) (h : Fin 4)

/-- Row `T` of sequence `b` in the flat rows, token `j` of memory `b`, and lane `l` of head `h`. -/
def queryRow (T : Fin 8192) : Fin 16896 := ⟨8192 * b.val + T.val, by omega⟩
def token (j : Fin 256) : Fin 512 := ⟨256 * b.val + j.val, by omega⟩
def lane (l : Fin 256) : Fin 1024 := ⟨256 * h.val + l.val, by omega⟩

/-- The scores of a query of a head and the memory tokens. -/
def refScore (T : Fin 8192) (j : Fin 256) : EReal :=
  score (fun l => q (ix2 (queryRow b T) (lane h l))) (fun l => k (ix2 (token b j) (lane h l)))

theorem v2_at (T : Fin 8192) (l : Fin 256) :
    val_main_v2 (F := Ideal) q (ix4 b T h l) = q (ix2 (queryRow b T) (lane h l)) := by
  rw [val_main_v2_apply, val_main_v1_apply, val_main_v0_apply]
  refine congrArg q (funext fun a => Fin.ext ?_)
  match a with
  | ⟨0, _⟩ =>
    show (((b.val * 8192 + T.val) * 4 + h.val) * 256 + l.val) / 1024 = 8192 * b.val + T.val
    omega
  | ⟨1, _⟩ =>
    show (((b.val * 8192 + T.val) * 4 + h.val) * 256 + l.val) % 1024 = 256 * h.val + l.val
    omega

theorem v3_at (j l : Fin 256) : val_main_v3 (F := Ideal) k (ix4 b j h l) = k (ix2 (token b j) (lane h l)) := by
  rw [val_main_v3_apply]
  refine congrArg k (funext fun a => Fin.ext ?_)
  match a with
  | ⟨0, _⟩ =>
    show (((b.val * 256 + j.val) * 4 + h.val) * 256 + l.val) / 1024 = 256 * b.val + j.val
    omega
  | ⟨1, _⟩ =>
    show (((b.val * 256 + j.val) * 4 + h.val) * 256 + l.val) % 1024 = 256 * h.val + l.val
    omega

theorem v4_at (j l : Fin 256) : val_main_v4 (F := Ideal) v (ix4 b j h l) = v (ix2 (token b j) (lane h l)) := v3_at v b h j l

theorem v7_at (T : Fin 8192) (j : Fin 256) : val_main_v7 (F := Ideal) q k (ix4 b h T j) = refScore q k b h T j := by
  rw [val_main_v7_apply, val_main_v5_apply, val_main_v6_apply, val_main_cst_apply]
  unfold refScore score
  refine congrArg (· * Ideal.ofBits .f32 0x3D800000#32) (Finset.sum_congr rfl fun l _ => ?_)
  have hl : lidx_main_v5 (ix4 b h T j) l = ix4 b T h l := funext fun a => by
    match a with | ⟨0, _⟩ => rfl | ⟨1, _⟩ => rfl | ⟨2, _⟩ => rfl | ⟨3, _⟩ => rfl
  have hr : ridx_main_v5 (ix4 b h T j) l = ix4 b j h l := funext fun a => by
    match a with | ⟨0, _⟩ => rfl | ⟨1, _⟩ => rfl | ⟨2, _⟩ => rfl | ⟨3, _⟩ => rfl
  rw [hl, hr, v2_at, v3_at]

/-- The level the reference subtracts is the largest of the scores. -/
theorem v10_at (T : Fin 8192) : val_main_v10 (F := Ideal) q k (ix3 b h T) = rowMax (refScore q k b h T) := by
  have e : val_main_v8 (F := Ideal) q k (ix3 b h T) = (Finset.univ : Finset (Fin 256)).fold max ⊥ (refScore q k b h T) := by
    have hs := fun j => v7_at q k b h T j
    unfold val_main_v8
    generalize val_main_v7 (F := Ideal) q k = y at hs
    have hb : val_main_cst_0 (F := Ideal) (Shape.Idx.first Cert.MemAttnRefIdeal.Gen.h_S_) = (⊥ : EReal) := ofBits_bot
    refine (Host.reduce_eq_fold_single (FloatOps.maximumf : Ideal .f32 → Ideal .f32 → Ideal .f32)
      (y : Cert.MemAttnRefIdeal.S2x4x8192x256.Idx → Ideal .f32) _ _ (by decide) _ _).trans ?_
    rw [hb]
    refine congrArg (fun f => Finset.fold max (⊥ : EReal) f (Finset.univ : Finset (Fin 256))) (funext fun j => ?_)
    refine Eq.trans ?_ (hs j)
    exact congrArg y (funext fun a => Fin.ext (by match a with | ⟨0, _⟩ => rfl | ⟨1, _⟩ => rfl | ⟨2, _⟩ => rfl | ⟨3, _⟩ => rfl))
  rw [val_main_v10_apply, e, val_main_v9_apply]
  exact congrArg (fun z => max z _) ofBits_bot

theorem v14_at (T : Fin 8192) (j : Fin 256) :
    val_main_v14 (F := Ideal) q k (ix4 b h T j) = Ideal.exp (refScore q k b h T j - rowMax (refScore q k b h T)) := by
  rw [val_main_v14_apply, val_main_v13_apply, v7_at, val_main_v12_apply, val_main_v11_apply]
  have e : idx_main_v11 (idx_main_v12 (ix4 b h T j)) = ix3 b h T := funext fun a => by
    match a with | ⟨0, _⟩ => rfl | ⟨1, _⟩ => rfl | ⟨2, _⟩ => rfl
  rw [e, v10_at]
  rfl

/-- The reference's weights are the softmax of the scores. -/
theorem v18_at (T : Fin 8192) (j : Fin 256) :
    val_main_v18 (F := Ideal) q k (ix4 b h T j) = softmax (refScore q k b h T) j := by
  rw [val_main_v18_apply, v14_at, val_main_v17_apply, val_main_v16_apply, val_main_v15_apply]
  have e : ∀ x, idx_main_v15 (idx_main_v16 (idx_main_v17 (ix4 b h T j))) x = ix4 b h T x := fun x => funext fun a => by
    match a with | ⟨0, _⟩ => rfl | ⟨1, _⟩ => rfl | ⟨2, _⟩ => rfl | ⟨3, _⟩ => rfl
  have z : (val_main_cst_2 (F := Ideal)) (Shape.Idx.first Cert.MemAttnRefIdeal.Gen.h_S_) = (0 : EReal) := by
    show Ideal.ofBits .f32 0x00000000#32 = 0
    simp [Ideal.ofBits, Ideal.ieee]
  simp only [e, v14_at, z, zero_add]
  rfl

/-- The reference's result at a query and a lane is the mean of the values under that softmax. -/
theorem ref_at (T : Fin 8192) (e : Fin 256) (R : Fin 16384) (C : Fin 1024) (hR : R.val = 8192 * b.val + T.val)
    (hC : C.val = 256 * h.val + e.val) :
    val_main_v22 (F := Ideal) q k v (ix2 R C) = ∑ j, v (ix2 (token b j) (lane h e)) * softmax (refScore q k b h T) j := by
  rw [val_main_v22_apply, val_main_v21_apply, val_main_v20_apply]
  have i : idx_main_v20 (idx_main_v21 (ix2 R C)) = ix4 b h e T := funext fun a => Fin.ext (by
    match a with
    | ⟨0, _⟩ => show (R.val * 1024 + C.val) / 8388608 = b.val; omega
    | ⟨1, _⟩ => show (R.val * 1024 + C.val) / 256 % 4 = h.val; omega
    | ⟨2, _⟩ => show (R.val * 1024 + C.val) % 256 = e.val; omega
    | ⟨3, _⟩ => show (R.val * 1024 + C.val) / 1024 % 8192 = T.val; omega)
  rw [i]
  refine (val_main_v19_apply _ _ _ _).trans (Finset.sum_congr rfl fun j _ => ?_)
  have hl : lidx_main_v19 (ix4 b h e T) j = ix4 b j h e := funext fun a => by
    match a with | ⟨0, _⟩ => rfl | ⟨1, _⟩ => rfl | ⟨2, _⟩ => rfl | ⟨3, _⟩ => rfl
  have hr : ridx_main_v19 (ix4 b h e T) j = ix4 b h T j := funext fun a => by
    match a with | ⟨0, _⟩ => rfl | ⟨1, _⟩ => rfl | ⟨2, _⟩ => rfl | ⟨3, _⟩ => rfl
  rw [hl, hr, v4_at, v18_at]

end

variable (m : (ℓ : Loc nD τ sig) → Buf (Elt Ideal) ℓ)

/-- What is asked of the operands: the queries' rows read and the keys are real. -/
structure Finite (c : Dev nD) : Prop where
  q : ∀ b T C, m ((c : Thread nD τ).loc main_arg0) (ix2 (queryRow b T) C) ≠ (⊤ : EReal)
    ∧ m ((c : Thread nD τ).loc main_arg0) (ix2 (queryRow b T) C) ≠ (⊥ : EReal)
  k : ∀ i C, m ((c : Thread nD τ).loc main_arg1) (ix2 i C) ≠ (⊤ : EReal)
    ∧ m ((c : Thread nD τ).loc main_arg1) (ix2 i C) ≠ (⊥ : EReal)

/-- Where each window's block sits, for every grid point. -/
theorem places : ∀ t : Fin cfg0.N, win0_0.index t = ![t.val, 0] ∧ win0_1.index t = ![t.val / 16, 0]
    ∧ win0_2.index t = ![t.val / 16, 0] ∧ win0_3.index t = ![t.val, 0] :=
  (by decide +kernel : ∀ t : Fin grid0.N, _)

section
variable (c : Dev nD) (t : Fin cfg0.N) (b : Fin 2)

theorem query_block (r : Fin 512) (C : Fin 1024) (T : Fin 8192) (hT : 512 * t.val + r.val = 8192 * b.val + T.val) :
    (iblk m c 0 t : Vec Ideal S512x1024 .bf16) (ix2 r C) = m ((c : Thread nD τ).loc main_arg0) (ix2 (queryRow b T) C) := by
  pointwise [queryRow]
  blk_point [iblk, V, places t]

theorem key_block (hb : t.val / 16 = b.val) (j : Fin 256) (C : Fin 1024) :
    (iblk m c 1 t : Vec Ideal S256x1024 .bf16) (ix2 j C) = m ((c : Thread nD τ).loc main_arg1) (ix2 (token b j) C) := by
  pointwise [token]
  blk_point [iblk, V, places t]

theorem value_block (hb : t.val / 16 = b.val) (j : Fin 256) (C : Fin 1024) :
    (iblk m c 2 t : Vec Ideal S256x1024 .bf16) (ix2 j C) = m ((c : Thread nD τ).loc main_arg2) (ix2 (token b j) C) := by
  pointwise [token]
  blk_point [iblk, V, places t]
end

/-- What a point stores at a block index is the reference's value where that index sits in the array. -/
theorem stored (c : Dev nD) (hF : Finite m c) (t : Fin cfg0.N) (y : S512x1024.Idx) :
    out0_3 (iblk m c 0 t) (iblk m c 1 t) (iblk m c 2 t) y
      = Cert.MemAttnRefIdeal.Read.val_main_v22 (F := Ideal) (m ((c : Thread nD τ).loc main_arg0)) (m ((c : Thread nD τ).loc main_arg1))
          (m ((c : Thread nD τ).loc main_arg2)) (((cfg0.win 3).blk t).view.emb y) := by
  have ht : t.val < 32 := t.isLt
  have hr : (y 0).val < 512 := (y 0).isLt
  have hC : (y 1).val < 1024 := (y 1).isLt
  let b : Fin 2 := ⟨t.val / 16, by omega⟩
  let T : Fin 8192 := ⟨512 * (t.val % 16) + (y 0).val, by omega⟩
  let h : Fin 4 := ⟨(y 1).val / 256, by omega⟩
  let e : Fin 256 := ⟨(y 1).val % 256, by omega⟩
  have hy : ((cfg0.win 3).blk t).view.emb y = ix2 (⟨t.val * 512 + (y 0).val, by omega⟩ : Fin 16384) (⟨(y 1).val, hC⟩ : Fin 1024) :=
    funext fun a => Fin.ext (by
      match a with
      | ⟨0, _⟩ => blk_simp [places t]; rfl
      | ⟨1, _⟩ => blk_simp [places t]; rfl)
  rw [hy, ref_at _ _ _ b h T e _ _ (by show t.val * 512 + (y 0).val = 8192 * (t.val / 16) + (512 * (t.val % 16) + (y 0).val); omega)
    (by show (y 1).val = 256 * ((y 1).val / 256) + (y 1).val % 256; omega)]
  refine (heads _ _ _ y).trans ?_
  have hl : ∀ l, headLane (y 1) l = lane h l := fun l => rfl
  have he : y 1 = lane h e := Fin.ext (by show (y 1).val = 256 * ((y 1).val / 256) + (y 1).val % 256; omega)
  have hq : ∀ l, (iblk m c 0 t : Vec Ideal S512x1024 .bf16) (ix2 (y 0) (headLane (y 1) l))
      = m ((c : Thread nD τ).loc main_arg0) (ix2 (queryRow b T) (lane h l)) := fun l =>
    query_block m c t b (y 0) _ T (by
      show 512 * t.val + (y 0).val = 8192 * (t.val / 16) + (512 * (t.val % 16) + (y 0).val); omega)
  have hk : ∀ j l, (iblk m c 1 t : Vec Ideal S256x1024 .bf16) (ix2 j (headLane (y 1) l))
      = m ((c : Thread nD τ).loc main_arg1) (ix2 (token b j) (lane h l)) := fun j l => key_block m c t b rfl j _
  have hv : ∀ j, (iblk m c 2 t : Vec Ideal S256x1024 .bf16) (ix2 j (y 1))
      = m ((c : Thread nD τ).loc main_arg2) (ix2 (token b j) (lane h e)) := fun j => by
    rw [← he]; exact value_block m c t b rfl j _
  simp only [hq, hk, hv]
  have hs : ∀ j, score (fun l => m ((c : Thread nD τ).loc main_arg0) (ix2 (queryRow b T) (lane h l)))
      (fun l => m ((c : Thread nD τ).loc main_arg1) (ix2 (token b j) (lane h l))) ≠ ⊤
      ∧ score (fun l => m ((c : Thread nD τ).loc main_arg0) (ix2 (queryRow b T) (lane h l)))
      (fun l => m ((c : Thread nD τ).loc main_arg1) (ix2 (token b j) (lane h l))) ≠ ⊥ :=
    fun j => score_real _ _ (fun l => hF.q _ _ _) (fun l => hF.k _ _)
  exact mean_eq _ _ (fun j => (hs j).1) 0 (hs 0).2

/-- The result array after the run is the reference's term of the argument arrays. -/
theorem result (c : Dev nD) (hF : Finite m c) : (dats m 0 c).arrAt 3 (cfgs 0).N
    = Cert.MemAttnRefIdeal.Read.val_main_v22 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  exact stored m c hF t y

/-- The precondition of the queries, at a row of a sequence. -/
theorem queries_of (x : FVec Ideal S16896x1024 .bf16) (hs : S16896x1024.Slices ![0, 0] Cert.MemAttnRefIdeal.S16384x1024) (hb)
    (hc : (⟨0, ![]⟩ : Shape).BroadcastsInDim Cert.MemAttnRefIdeal.S16384x1024 (![] : Fin 0 → Fin Cert.MemAttnRefIdeal.S16384x1024.rank))
    (hx : cmpf .olt (Host.absf (extf .f32 (extractStridedSlice Cert.MemAttnRefIdeal.S16384x1024 ![0, 0] x hs) hb))
      (broadcastInDim Cert.MemAttnRefIdeal.S16384x1024 ![] hc (constant (F := Ideal) ⟨0, ![]⟩ .f32 0x7F800000#32)) = fun _ => 1#1)
    (b : Fin 2) (T : Fin 8192) (C : Fin 1024) :
    x (ix2 (queryRow b T) C) ≠ (⊤ : EReal) ∧ x (ix2 (queryRow b T) C) ≠ (⊥ : EReal) := by
  have := congrFun hx (ix2 (⟨8192 * b.val + T.val, by omega⟩ : Fin 16384) C)
  revert this
  pointwise []
  exact Cert.KernelIdeal.Whole.real_of_abs _

end Cert.MemAttnIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.MemKvRefIdeal.Run
public import proofs.«01_k».proof.Proof.Gen.MemKvRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.MemQ
public import proofs.«01_k».proof.Proof.Gen.MemQ.Skeleton
public import proofs.«01_k».proof.Proof.Gen.MemQ.Launch
public import proofs.«01_k».proof.Proof.Gen.MemQ.Points
public import proofs.«01_k».proof.Proof.Gen.MemQ.Frame
public import proofs.«01_k».proof.Proof.Gen.MemQIdeal
public import proofs.«01_k».proof.Proof.Gen.MemQIdeal.Skeleton
public import proofs.«01_k».proof.Proof.Gen.MemQIdeal.Launch
public import proofs.«01_k».proof.Proof.Gen.MemQIdeal.Points
public import proofs.«01_k».proof.Proof.Gen.MemQIdeal.Frame
public import proofs.«01_k».proof.Proof.Gen.MemQRefIdeal
public import proofs.«01_k».proof.Proof.Gen.MemQRefIdeal.Run
public import proofs.«01_k».proof.Proof.Gen.MemQRefIdeal.Read
public import proofs.«01_k».proof.Proof.Gen.MemAttn
public import proofs.«01_k».proof.Proof.Gen.MemAttn.Skeleton
public import proofs.«01_k».proof.Proof.Gen.MemAttn.Launch
public import proofs.«01_k».proof.Proof.Gen.MemAttn.Points
public import proofs.«01_k».proof.Proof.Gen.MemAttn.Frame
public import proofs.«01_k».proof.Proof.Gen.MemAttnIdeal
public import proofs.«01_k».proof.Proof.Gen.MemAttnIdeal.Skeleton
public import proofs.«01_k».proof.Proof.Gen.MemAttnIdeal.Launch
public import proofs.«01_k».proof.Proof.Gen.MemAttnIdeal.Points
public import proofs.«01_k».proof.Proof.Gen.MemAttnIdeal.Frame
public import proofs.«01_k».proof.Proof.Gen.MemAttnRefIdeal
public import proofs.«01_k».proof.Proof.Gen.MemAttnRefIdeal.Run
public import proofs.«01_k».proof.Proof.Gen.MemAttnRefIdeal.Read
public import proofs.«01_k».proof.Proof.Gen.FfnIdeal.Value
public import proofs.«01_k».proof.Proof.Gen.MemKvIdeal.Value
public import proofs.«01_k».proof.Proof.Gen.OutProjIdeal.Value
public import proofs.«01_k».proof.Proof.Gen.MemQIdeal.Value
public import proofs.«01_k».proof.Proof.Gen.MemAttnIdeal.Value
public import proofs.«01_k».proof.Proof.OutProj
public import proofs.«01_k».proof.Proof.MemQ
public import proofs.«01_k».proof.Proof.MemKv
public import proofs.«01_k».proof.Proof.Ffn
public import proofs.«01_k».proof.Proof.Diff
public import proofs.«01_k».proof.Proof.Qkv
public import proofs.«01_k».proof.Proof.QkvEven
public import proofs.«01_k».proof.Proof.Gen.FinalNorm
public import proofs.«01_k».proof.Proof.Gen.FinalNorm.Skeleton
public import proofs.«01_k».proof.Proof.Gen.FinalNorm.Launch
public import proofs.«01_k».proof.Proof.Gen.FinalNorm.Points
public import proofs.«01_k».proof.Proof.Gen.FinalNorm.Frame
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Points
public import proofs.«01_k».proof.Proof.Gen.FinalNormIdeal.Frame
public import proofs.«01_k».proof.Proof.Gen.FinalNormRefIdeal
public import proofs.«01_k».proof.Proof.Gen.FinalNormRefIdeal.Run
public import proofs.«01_k».proof.Proof.Gen.FinalNormRefIdeal.Read
public import proofs.«01_k».proof.Proof.Gen.FinalNormIdeal.Value
public import proofs.«01_k».proof.Proof.FinalNorm
public import proofs.«01_k».proof.Proof.MemAttn
public import Idealize.ShloMosaic.Adequacy
public import Idealize.ShloMosaic.Init
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.QkvIdeal.Value
public import proofs.«01_k».proof.Proof.Gen.QkvEven
public import proofs.«01_k».proof.Proof.Gen.QkvEven.Skeleton
public import proofs.«01_k».proof.Proof.Gen.QkvEven.Launch
public import proofs.«01_k».proof.Proof.Gen.QkvEven.Points
public import proofs.«01_k».proof.Proof.Gen.QkvEven.Frame
public import proofs.«01_k».proof.Proof.Gen.QkvEvenIdeal
public import proofs.«01_k».proof.Proof.Gen.QkvEvenIdeal.Skeleton
public import proofs.«01_k».proof.Proof.Gen.QkvEvenIdeal.Launch
public import proofs.«01_k».proof.Proof.Gen.QkvEvenIdeal.Points
public import proofs.«01_k».proof.Proof.Gen.QkvEvenIdeal.Frame
public import proofs.«01_k».proof.Proof.Gen.QkvEvenRefIdeal
public import proofs.«01_k».proof.Proof.Gen.QkvEvenRefIdeal.Run
public import proofs.«01_k».proof.Proof.Gen.QkvEvenRefIdeal.Read
public import proofs.«01_k».proof.Proof.Gen.QkvEvenIdeal.Value

@[expose] public section

noncomputable section

namespace Cert.Proof

open Idealize.ShloMosaic Idealize.SL.Sem

/-- The feed-forward call and its reference end with the same array over the extended reals. -/
theorem ffn_value : Cert.algebraic_FfnIdeal_FfnRefIdeal (hFfnIdeal := Cert.FfnIdeal.Gen.facts) (hFfnRefIdeal := Cert.FfnRefIdeal.Gen.facts) := by
  pair_intro
  · run_from Cert.FfnIdeal.Value.run_blocks m g
  · hlo_run
    exact (Cert.FfnIdeal.Whole.result m c).symm

/-- The projection of the memory tokens and its reference end with the same array over the extended reals. -/
theorem memKv_value : Cert.algebraic_MemKvIdeal_MemKvRefIdeal (hMemKvIdeal := Cert.MemKvIdeal.Gen.facts) (hMemKvRefIdeal := Cert.MemKvRefIdeal.Gen.facts) := by
  pair_intro
  · run_from Cert.MemKvIdeal.Value.run_blocks m g
  · hlo_run
    exact (Cert.MemKvIdeal.Whole.result m c).symm

/-- The residual output projection and its reference end with the same array over the extended reals. -/
theorem outProj_value : Cert.algebraic_OutProjIdeal_OutProjRefIdeal (hOutProjIdeal := Cert.OutProjIdeal.Gen.facts) (hOutProjRefIdeal := Cert.OutProjRefIdeal.Gen.facts) := by
  pair_intro
  · run_from Cert.OutProjIdeal.Value.run_blocks m g
  · hlo_run
    exact (Cert.OutProjIdeal.Whole.result m c).symm

/-- The projection to the memory queries and its reference end with the same array over the extended reals. -/
theorem memQ_value : Cert.algebraic_MemQIdeal_MemQRefIdeal (hMemQIdeal := Cert.MemQIdeal.Gen.facts) (hMemQRefIdeal := Cert.MemQRefIdeal.Gen.facts) := by
  pair_intro
  · run_from Cert.MemQIdeal.Value.run_blocks m g
  · hlo_run
    exact (Cert.MemQIdeal.Whole.result m c).symm

/-- The final normalization and its reference end with the same array over the extended reals. -/
theorem finalNorm_value : Cert.algebraic_FinalNormIdeal_FinalNormRefIdeal (hFinalNormIdeal := Cert.FinalNormIdeal.Gen.facts) (hFinalNormRefIdeal := Cert.FinalNormRefIdeal.Gen.facts) := by
  pair_intro
  · run_from Cert.FinalNormIdeal.Value.run_blocks m g
  · hlo_run
    exact (Cert.FinalNormIdeal.Whole.result m c).symm

/-- The shape facts the precondition's operations take. -/
theorem finite_facts : Cert.Pre_finite_inputs.Facts where
  slices_S16896x1024_S16384x512_0_0 := by decide
  bitsLt_bf16_f32 := by decide
  bcast_S_S16384x512 := by decide
  bcast_S_S1 := by decide

/-- The precondition says that the rows and lanes the kernel reads are real. -/
theorem finite_inputs (m : (ℓ : Loc Cert.KernelIdeal.nD Cert.KernelIdeal.τ Cert.KernelIdeal.sig) → Buf (Elt Ideal) ℓ)
    (h : Cert.Pre_KernelIdeal_finite_inputs (hPre_finite_inputs := finite_facts) m) (c : Dev Cert.KernelIdeal.nD) :
    Cert.KernelIdeal.Whole.Finite m c where
  q := Cert.KernelIdeal.Whole.finite_of _ _ _ _ (h c).1
  k := Cert.KernelIdeal.Whole.finite_of _ _ _ _ (h c).2.1
  v := Cert.KernelIdeal.Whole.finite_of _ _ _ _ (h c).2.2.1
  lam := by
    have hx := congrFun (h c).2.2.2 (ix1 (0 : Fin 1))
    exact Cert.KernelIdeal.Whole.real_of_abs _ hx

/-- The differential attention and its reference end with the same array over the extended reals, on real operands. -/
theorem kernel_value : Cert.algebraic_KernelIdeal_ReferenceIdeal_pre_finite_inputs (hKernelIdeal := Cert.KernelIdeal.Gen.facts)
    (hReferenceIdeal := Cert.ReferenceIdeal.Gen.facts) (hPre_finite_inputs := finite_facts) := by
  pair_intro
  · run_from Cert.KernelIdeal.Whole.run_blocks m g
  · refine (θ_run _ _ _).mono (fun r h c => ⟨(h c).1.trans ?_, (h c).2⟩) (Cert.ReferenceIdeal.Value.run (F := Ideal) m' g')
    rw [Cert.ReferenceIdeal.Read.val_main_v54_eq, (hagree c).1, (hagree c).2.1, (hagree c).2.2.1, (hagree c).2.2.2.1, (hagree c).2.2.2.2]
    exact (Cert.KernelIdeal.Whole.result m c (finite_inputs m hpre c)).symm

/-- The projection of an odd layer to queries, keys and values and its reference end with the same five arrays over the
extended reals: the queries, the keys and the values, and the keys and the values again in the narrow format. -/
theorem qkv_value : Cert.algebraic_QkvIdeal_QkvRefIdeal (hQkvIdeal := Cert.QkvIdeal.Gen.facts) (hQkvRefIdeal := Cert.QkvRefIdeal.Gen.facts) := by
  pair_intro
  · run_from Cert.QkvIdeal.Value.run_blocks m g
  · refine (θ_run _ _ _).mono (fun r h c => ⟨(h c).1.trans ?_, (h c).2.1.trans ?_, (h c).2.2.1.trans ?_, (h c).2.2.2.1.trans ?_,
      (h c).2.2.2.2.1.trans ?_, (h c).2.2.2.2.2⟩) (Cert.QkvRefIdeal.Value.run (F := Ideal) m' g')
    · rw [Cert.QkvRefIdeal.Read.val_main_v85_eq, (hagree c).1, (hagree c).2.1, (hagree c).2.2.1, (hagree c).2.2.2]
      exact (Cert.QkvIdeal.Whole.result6 m c).symm
    · rw [Cert.QkvRefIdeal.Read.val_main_v84_eq, (hagree c).1, (hagree c).2.1, (hagree c).2.2.1, (hagree c).2.2.2]
      exact (Cert.QkvIdeal.Whole.result7 m c).symm
    · rw [Cert.QkvRefIdeal.Read.val_main_v16_eq, (hagree c).1, (hagree c).2.1, (hagree c).2.2.1]
      exact (Cert.QkvIdeal.Whole.result8 m c).symm
    · rw [Cert.QkvRefIdeal.Read.val_main_v86_eq, (hagree c).1, (hagree c).2.1, (hagree c).2.2.1, (hagree c).2.2.2]
      exact (Cert.QkvIdeal.Whole.result9 m c).symm
    · rw [Cert.QkvRefIdeal.Read.val_main_v87_eq, (hagree c).1, (hagree c).2.1, (hagree c).2.2.1]
      exact (Cert.QkvIdeal.Whole.result10 m c).symm

/-- The projection of an even layer to queries, keys and values and its reference end with the same five arrays over the
extended reals: the queries, the keys and the values, and the keys and the values again in the narrow format. -/
theorem qkvEven_value : Cert.algebraic_QkvEvenIdeal_QkvEvenRefIdeal (hQkvEvenIdeal := Cert.QkvEvenIdeal.Gen.facts) (hQkvEvenRefIdeal := Cert.QkvEvenRefIdeal.Gen.facts) := by
  pair_intro
  · run_from Cert.QkvEvenIdeal.Value.run_blocks m g
  · refine (θ_run _ _ _).mono (fun r h c => ⟨(h c).1.trans ?_, (h c).2.1.trans ?_, (h c).2.2.1.trans ?_, (h c).2.2.2.1.trans ?_,
      (h c).2.2.2.2.1.trans ?_, (h c).2.2.2.2.2⟩) (Cert.QkvEvenRefIdeal.Value.run (F := Ideal) m' g')
    · rw [Cert.QkvEvenRefIdeal.Read.val_main_v96_eq, (hagree c).1, (hagree c).2.1, (hagree c).2.2.1, (hagree c).2.2.2]
      exact (Cert.QkvEvenIdeal.Whole.result6 m c).symm
    · rw [Cert.QkvEvenRefIdeal.Read.val_main_v91_eq, (hagree c).1, (hagree c).2.1, (hagree c).2.2.1, (hagree c).2.2.2]
      exact (Cert.QkvEvenIdeal.Whole.result7 m c).symm
    · rw [Cert.QkvEvenRefIdeal.Read.val_main_v95_eq, (hagree c).1, (hagree c).2.1, (hagree c).2.2.1]
      exact (Cert.QkvEvenIdeal.Whole.result8 m c).symm
    · rw [Cert.QkvEvenRefIdeal.Read.val_main_v97_eq, (hagree c).1, (hagree c).2.1, (hagree c).2.2.1, (hagree c).2.2.2]
      exact (Cert.QkvEvenIdeal.Whole.result9 m c).symm
    · refine (Cert.QkvEvenRefIdeal.Read.val_main_v98_eq _ _ _).trans ?_
      rw [(hagree c).1, (hagree c).2.1, (hagree c).2.2.1]
      exact (Cert.QkvEvenIdeal.Whole.result10 m c).symm

/-- The shape facts the memory attention's precondition takes. -/
theorem queries_facts : Cert.Pre_queries_and_keys.Facts where
  slices_S16896x1024_S16384x1024_0_0 := by decide
  bitsLt_bf16_f32 := by decide
  bcast_S_S16384x1024 := by decide
  bcast_S_S512x1024 := by decide

/-- That precondition says that the queries' rows read and the keys are real. -/
theorem queries_real (m : (ℓ : Loc Cert.MemAttnIdeal.nD Cert.MemAttnIdeal.τ Cert.MemAttnIdeal.sig) → Buf (Elt Ideal) ℓ)
    (h : Cert.Pre_MemAttnIdeal_queries_and_keys (hPre_queries_and_keys := queries_facts) m) (c : Dev Cert.MemAttnIdeal.nD) :
    Cert.MemAttnIdeal.Whole.Finite m c where
  q := Cert.MemAttnIdeal.Whole.queries_of _ _ _ _ (h c).1
  k := fun i C => Cert.KernelIdeal.Whole.real_of_abs _ (congrFun (h c).2 (ix2 i C))

/-- The memory attention and its reference end with the same array over the extended reals, on real queries and keys. -/
theorem memAttn_value : Cert.algebraic_MemAttnIdeal_MemAttnRefIdeal_pre_queries_and_keys (hMemAttnIdeal := Cert.MemAttnIdeal.Gen.facts)
    (hMemAttnRefIdeal := Cert.MemAttnRefIdeal.Gen.facts) (hPre_queries_and_keys := queries_facts) := by
  pair_intro
  · run_from Cert.MemAttnIdeal.Value.run_blocks m g
  · refine (θ_run _ _ _).mono (fun r h c => ⟨(h c).1.trans ?_, (h c).2⟩) (Cert.MemAttnRefIdeal.Value.run (F := Ideal) m' g')
    rw [Cert.MemAttnRefIdeal.Read.val_main_v22_eq, (hagree c).1, (hagree c).2.1, (hagree c).2.2]
    exact (Cert.MemAttnIdeal.Whole.result m c (queries_real m hpre c)).symm

/-- The frames of all programs, each ideal program as its kernel over the extended reals, and the values. -/
theorem claim : Cert.Claim :=
  ⟨Cert.Kernel.Gen.facts, Cert.KernelIdeal.Gen.facts, Cert.ReferenceIdeal.Gen.facts, Cert.Ffn.Gen.facts, Cert.FfnIdeal.Gen.facts, Cert.FfnRefIdeal.Gen.facts, Cert.MemKv.Gen.facts, Cert.MemKvIdeal.Gen.facts, Cert.MemKvRefIdeal.Gen.facts, Cert.OutProj.Gen.facts, Cert.OutProjIdeal.Gen.facts, Cert.OutProjRefIdeal.Gen.facts, Cert.MemQ.Gen.facts, Cert.MemQIdeal.Gen.facts, Cert.MemQRefIdeal.Gen.facts, Cert.MemAttn.Gen.facts, Cert.MemAttnIdeal.Gen.facts, Cert.MemAttnRefIdeal.Gen.facts, Cert.Qkv.Gen.facts, Cert.QkvIdeal.Gen.facts, Cert.QkvRefIdeal.Gen.facts, Cert.QkvEven.Gen.facts, Cert.QkvEvenIdeal.Gen.facts, Cert.QkvEvenRefIdeal.Gen.facts, Cert.FinalNorm.Gen.facts, Cert.FinalNormIdeal.Gen.facts, Cert.FinalNormRefIdeal.Gen.facts, finite_facts, queries_facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono
      (fun r h => ⟨fun c => (h c).2, funext fun s => ((by decide : ∀ x : SemLoc Cert.ReferenceIdeal.sig, False) s.2).elim⟩)
      (Cert.ReferenceIdeal.Value.run (F := Ideal) m ρ),
    fun m ρ _ => (θ_run _ _ _).mono
      (fun r h => ⟨fun c => (h c).2, funext fun s => ((by decide : ∀ x : SemLoc Cert.ReferenceIdeal.sig, False) s.2).elim⟩)
      (Cert.ReferenceIdeal.Value.run (F := Ideal) m ρ),
    fun m ρ _ => Cert.Ffn.Gen.frame m ρ,
    fun m ρ _ => Cert.FfnIdeal.Gen.frame m ρ,
    fun m ρ _ => (θ_run _ _ _).mono
      (fun r h => ⟨fun c => (h c).2, funext fun s => ((by decide : ∀ x : SemLoc Cert.FfnRefIdeal.sig, False) s.2).elim⟩)
      (Cert.FfnRefIdeal.Value.run (F := Ideal) m ρ),
    fun m ρ _ => Cert.MemKv.Gen.frame m ρ,
    fun m ρ _ => Cert.MemKvIdeal.Gen.frame m ρ,
    fun m ρ _ => (θ_run _ _ _).mono
      (fun r h => ⟨fun c => (h c).2, funext fun s => ((by decide : ∀ x : SemLoc Cert.MemKvRefIdeal.sig, False) s.2).elim⟩)
      (Cert.MemKvRefIdeal.Value.run (F := Ideal) m ρ),
    fun m ρ _ => Cert.OutProj.Gen.frame m ρ,
    fun m ρ _ => Cert.OutProjIdeal.Gen.frame m ρ,
    fun m ρ _ => (θ_run _ _ _).mono
      (fun r h => ⟨fun c => (h c).2, funext fun s => ((by decide : ∀ x : SemLoc Cert.OutProjRefIdeal.sig, False) s.2).elim⟩)
      (Cert.OutProjRefIdeal.Value.run (F := Ideal) m ρ),
    fun m ρ _ => Cert.MemQ.Gen.frame m ρ,
    fun m ρ _ => Cert.MemQIdeal.Gen.frame m ρ,
    fun m ρ _ => (θ_run _ _ _).mono
      (fun r h => ⟨fun c => (h c).2, funext fun s => ((by decide : ∀ x : SemLoc Cert.MemQRefIdeal.sig, False) s.2).elim⟩)
      (Cert.MemQRefIdeal.Value.run (F := Ideal) m ρ),
    fun m ρ _ => Cert.MemAttn.Gen.frame m ρ,
    fun m ρ _ => Cert.MemAttnIdeal.Gen.frame m ρ,
    fun m ρ _ => Cert.MemAttnIdeal.Gen.frame m ρ,
    fun m ρ _ => (θ_run _ _ _).mono
      (fun r h => ⟨fun c => (h c).2, funext fun s => ((by decide : ∀ x : SemLoc Cert.MemAttnRefIdeal.sig, False) s.2).elim⟩)
      (Cert.MemAttnRefIdeal.Value.run (F := Ideal) m ρ),
    fun m ρ _ => (θ_run _ _ _).mono
      (fun r h => ⟨fun c => (h c).2, funext fun s => ((by decide : ∀ x : SemLoc Cert.MemAttnRefIdeal.sig, False) s.2).elim⟩)
      (Cert.MemAttnRefIdeal.Value.run (F := Ideal) m ρ),
    fun m ρ _ => Cert.Qkv.Gen.frame m ρ,
    fun m ρ _ => Cert.QkvIdeal.Gen.frame m ρ,
    fun m ρ _ => (θ_run _ _ _).mono
      (fun r h => ⟨fun c => (h c).2.2.2.2.2, funext fun s => ((by decide : ∀ x : SemLoc Cert.QkvRefIdeal.sig, False) s.2).elim⟩)
      (Cert.QkvRefIdeal.Value.run (F := Ideal) m ρ),
    fun m ρ _ => Cert.QkvEven.Gen.frame m ρ,
    fun m ρ _ => Cert.QkvEvenIdeal.Gen.frame m ρ,
    fun m ρ _ => (θ_run _ _ _).mono
      (fun r h => ⟨fun c => (h c).2.2.2.2.2, funext fun s => ((by decide : ∀ x : SemLoc Cert.QkvEvenRefIdeal.sig, False) s.2).elim⟩)
      (Cert.QkvEvenRefIdeal.Value.run (F := Ideal) m ρ),
    fun m ρ _ => Cert.FinalNorm.Gen.frame m ρ,
    fun m ρ _ => Cert.FinalNormIdeal.Gen.frame m ρ,
    fun m ρ _ => (θ_run _ _ _).mono
      (fun r h => ⟨fun c => (h c).2, funext fun s => ((by decide : ∀ x : SemLoc Cert.FinalNormRefIdeal.sig, False) s.2).elim⟩)
      (Cert.FinalNormRefIdeal.Value.run (F := Ideal) m ρ),
    IdealRules.named_const.statement Cert.KernelIdeal.κ "mask" .f32 0xF149F2CA#32 ⊥ rfl, kernel_value, trivial, ffn_value, trivial, memKv_value, trivial, outProj_value, trivial, memQ_value, trivial, memAttn_value, trivial, qkv_value, trivial, qkvEven_value, trivial, finalNorm_value⟩

end Cert.Proof

end
